-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_not_negative [hPre_finite_and_not_negative : Cert.Pre_finite_and_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_not_negative [hPre_finite_and_not_negative : Cert.Pre_finite_and_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_and_not_negative [hKernelIdeal : Cert.KernelIdeal.Facts] [hPre_finite_and_not_negative : Cert.Pre_finite_and_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_not_negative [hReferenceIdeal : Cert.ReferenceIdeal.Facts] [hPre_finite_and_not_negative : Cert.Pre_finite_and_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_and_not_negative [hKernelIdeal : Cert.KernelIdeal.Facts] [hReferenceIdeal : Cert.ReferenceIdeal.Facts] [hPre_finite_and_not_negative : Cert.Pre_finite_and_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_and_not_negative : Cert.Pre_finite_and_not_negative.Facts),
    quiescent_Kernel (hKernel := hKernel)
    ∧ quiescent_KernelIdeal (hKernelIdeal := hKernelIdeal)
    ∧ quiescent_KernelIdeal_pre_finite_and_not_negative (hKernelIdeal := hKernelIdeal) (hPre_finite_and_not_negative := hPre_finite_and_not_negative)
    ∧ quiescent_ReferenceIdeal (hReferenceIdeal := hReferenceIdeal)
    ∧ quiescent_ReferenceIdeal_pre_finite_and_not_negative (hReferenceIdeal := hReferenceIdeal) (hPre_finite_and_not_negative := hPre_finite_and_not_negative)
    ∧ preserves_Kernel_KernelIdeal
    ∧ algebraic_KernelIdeal_ReferenceIdeal_pre_finite_and_not_negative (hKernelIdeal := hKernelIdeal) (hReferenceIdeal := hReferenceIdeal) (hPre_finite_and_not_negative := hPre_finite_and_not_negative)
-- ==== Pre_finite_and_not_negative.lean ====
abbrev S2x256x2048x16 : Shape := ⟨4, ![2, 256, 2048, 16]⟩
abbrev S2x128x2048x1 : Shape := ⟨4, ![2, 128, 2048, 1]⟩
abbrev S2x1x2048x16 : Shape := ⟨4, ![2, 1, 2048, 16]⟩
abbrev S2x4x16x16x1 : Shape := ⟨5, ![2, 4, 16, 16, 1]⟩
abbrev S192x256 : Shape := ⟨2, ![192, 256]⟩
abbrev S64x128 : Shape := ⟨2, ![64, 128]⟩
abbrev S64x64 : Shape := ⟨2, ![64, 64]⟩
abbrev S64 : Shape := ⟨1, ![64]⟩
abbrev S_ : Shape := ⟨0, ![]⟩

class Facts : Prop where
  bcast_S_S2x256x2048x16 : S_.BroadcastsInDim S2x256x2048x16 (![] : Fin 0 → Fin S2x256x2048x16.rank)
  reducesTo_S2x256x2048x16_S_d0_1_2_3 : S2x256x2048x16.ReducesTo [0, 1, 2, 3] S_
  h_S_ : 0 < S_.numel
  bcast_S_S192x256 : S_.BroadcastsInDim S192x256 (![] : Fin 0 → Fin S192x256.rank)
  reducesTo_S192x256_S_d0_1 : S192x256.ReducesTo [0, 1] S_
  bcast_S_S2x1x2048x16 : S_.BroadcastsInDim S2x1x2048x16 (![] : Fin 0 → Fin S2x1x2048x16.rank)
  reducesTo_S2x1x2048x16_S_d0_1_2_3 : S2x1x2048x16.ReducesTo [0, 1, 2, 3] S_

variable [Facts]

def fn_part1 {F : FTy → Type} [FloatOps F] (main_v13 : IVec S_ 1) (main_v15 : IVec S2x1x2048x16 1) (main_c_5 : IVec S_ 1) : IVec S_ 1 :=
  let main_v16 : IVec S_ 1 := (fun x v => Host.reduce IntOp.andi x v reducesTo_S2x1x2048x16_S_d0_1_2_3 h_S_) main_v15 main_c_5
  let main_v17 : IVec S_ 1 := andi main_v13 main_v16
  main_v17

def fn {F : FTy → Type} [FloatOps F] (main_arg0 : FVec F S2x256x2048x16 .f32) (main_arg1 : FVec F S2x128x2048x1 .f32) (main_arg2 : IVec S2x1x2048x16 32) (main_arg3 : FVec F S2x4x16x16x1 .f32) (main_arg4 : FVec F S2x4x16x16x1 .f32) (main_arg5 : FVec F S192x256 .f32) (main_arg6 : FVec F S192x256 .f32) (main_arg7 : FVec F S192x256 .f32) (main_arg8 : FVec F S64x128 .f32) (main_arg9 : FVec F S64x128 .f32) (main_arg10 : FVec F S64x128 .f32) (main_arg11 : FVec F S64x64 .f32) (main_arg12 : FVec F S64 .f32) (main_arg13 : FVec F S64 .f32) : IVec S_ 1 :=
  let main_v0 : FVec F S2x256x2048x16 .f32 := Host.absf main_arg0
  let main_cst : FVec F S_ .f32 := constant S_ .f32 0x7F800000#32
  let main_v1 : FVec F S2x256x2048x16 .f32 := broadcastInDim S2x256x2048x16 ![] bcast_S_S2x256x2048x16 main_cst
  let main_v2 : IVec S2x256x2048x16 1 := cmpf .olt main_v0 main_v1
  let main_c : IVec S_ 1 := constantI S_ 1 1#1
  let main_v3 : IVec S_ 1 := (fun x v => Host.reduce IntOp.andi x v reducesTo_S2x256x2048x16_S_d0_1_2_3 h_S_) main_v2 main_c
  let main_v4 : FVec F S192x256 .f32 := Host.absf main_arg5
  let main_cst_0 : FVec F S_ .f32 := constant S_ .f32 0x7F800000#32
  let main_v5 : FVec F S192x256 .f32 := broadcastInDim S192x256 ![] bcast_S_S192x256 main_cst_0
  let main_v6 : IVec S192x256 1 := cmpf .olt main_v4 main_v5
  let main_c_1 : IVec S_ 1 := constantI S_ 1 1#1
  let main_v7 : IVec S_ 1 := (fun x v => Host.reduce IntOp.andi x v reducesTo_S192x256_S_d0_1 h_S_) main_v6 main_c_1
  let main_v8 : IVec S_ 1 := andi main_v3 main_v7
  let main_v9 : FVec F S192x256 .f32 := Host.absf main_arg6
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_c_4 : IVec S_ 32 := constantI S_ 32 0#32
  let main_v14 : IVec S2x1x2048x16 32 := broadcastInDim S2x1x2048x16 ![] bcast_S_S2x1x2048x16 main_c_4
  let main_v15 : IVec S2x1x2048x16 1 := cmpi .sge main_arg2 main_v14
  let main_c_5 : IVec S_ 1 := constantI S_ 1 1#1
  fn_part1 (F := F) main_v13 main_v15 main_c_5
-- ==== Kernel.lean ====
abbrev S2x256x2048x16 : Shape := ⟨4, ![2, 256, 2048, 16]⟩
abbrev S2x128x2048x1 : Shape := ⟨4, ![2, 128, 2048, 1]⟩
abbrev S2x1x2048x16 : Shape := ⟨4, ![2, 1, 2048, 16]⟩
abbrev S2x4x16x16x1 : Shape := ⟨5, ![2, 4, 16, 16, 1]⟩
abbrev S192x256 : Shape := ⟨2, ![192, 256]⟩
abbrev S64x128 : Shape := ⟨2, ![64, 128]⟩
abbrev S64x64 : Shape := ⟨2, ![64, 64]⟩
abbrev S64 : Shape := ⟨1, ![64]⟩
abbrev S2x256x16x2048 : Shape := ⟨4, ![2, 256, 16, 2048]⟩
abbrev S2x2048x16 : Shape := ⟨3, ![2, 2048, 16]⟩
abbrev S2x16x2048 : Shape := ⟨3, ![2, 16, 2048]⟩
abbrev S2x192x2048 : Shape := ⟨3, ![2, 192, 2048]⟩
abbrev S2x4x2048 : Shape := ⟨3, ![2, 4, 2048]⟩
abbrev S2x128x2048 : Shape := ⟨3, ![2, 128, 2048]⟩
abbrev S64x1 : Shape := ⟨2, ![64, 1]⟩
abbrev S2x64x2048 : Shape := ⟨3, ![2, 64, 2048]⟩
abbrev S2x4x16x16 : Shape := ⟨4, ![2, 4, 16, 16]⟩
abbrev S2x192x2048x1 : Shape := ⟨4, ![2, 192, 2048, 1]⟩
abbrev S2x64x2048x1 : Shape := ⟨4, ![2, 64, 2048, 1]⟩
abbrev S2x256x2048x1 : Shape := ⟨4, ![2, 256, 2048, 1]⟩
abbrev S1x16x128 : Shape := ⟨3, ![1, 16, 128]⟩
abbrev S1x256x16x128 : Shape := ⟨4, ![1, 256, 16, 128]⟩
abbrev S1x192x128 : Shape := ⟨3, ![1, 192, 128]⟩
abbrev S1x4x2048 : Shape := ⟨3, ![1, 4, 2048]⟩
abbrev S256x16x128 : Shape := ⟨3, ![256, 16, 128]⟩
abbrev S256x2048 : Shape := ⟨2, ![256, 2048]⟩
abbrev S192x2048 : Shape := ⟨2, ![192, 2048]⟩
abbrev S4x48x2048 : Shape := ⟨3, ![4, 48, 2048]⟩
abbrev S4x2048 : Shape := ⟨2, ![4, 2048]⟩
abbrev S4x16x128 : Shape := ⟨3, ![4, 16, 128]⟩
abbrev S4x128 : Shape := ⟨2, ![4, 128]⟩
abbrev S4x1x128 : Shape := ⟨3, ![4, 1, 128]⟩
abbrev S4x48x16x128 : Shape := ⟨4, ![4, 48, 16, 128]⟩
abbrev S4x1x16x128 : Shape := ⟨4, ![4, 1, 16, 128]⟩
abbrev S4x48x128 : Shape := ⟨3, ![4, 48, 128]⟩
abbrev S192x128 : Shape := ⟨2, ![192, 128]⟩
abbrev S16x128 : Shape := ⟨2, ![16, 128]⟩
abbrev S16x1x128 : Shape := ⟨3, ![16, 1, 128]⟩
abbrev S16x16x128 : Shape := ⟨3, ![16, 16, 128]⟩
abbrev S128x2048 : Shape := ⟨2, ![128, 2048]⟩
abbrev S1x128 : Shape := ⟨2, ![1, 128]⟩
abbrev S128 : Shape := ⟨1, ![128]⟩
abbrev S128x1 : Shape := ⟨2, ![128, 1]⟩
abbrev S8x2048 : Shape := ⟨2, ![8, 2048]⟩
abbrev S8 : Shape := ⟨1, ![8]⟩
abbrev S8x1 : Shape := ⟨2, ![8, 1]⟩
abbrev S8x16 : Shape := ⟨2, ![8, 16]⟩
abbrev S2048x16 : Shape := ⟨2, ![2048, 16]⟩
abbrev S1x128x2048 : Shape := ⟨3, ![1, 128, 2048]⟩
abbrev S64x2048 : Shape := ⟨2, ![64, 2048]⟩
abbrev S1x16 : Shape := ⟨2, ![1, 16]⟩
abbrev S16 : Shape := ⟨1, ![16]⟩
abbrev S16x2048 : Shape := ⟨2, ![16, 2048]⟩
abbrev S16x16 : Shape := ⟨2, ![16, 16]⟩
abbrev S1x1x16x16 : Shape := ⟨4, ![1, 1, 16, 16]⟩
abbrev S2048 : Shape := ⟨1, ![2048]⟩
abbrev S1x2048 : Shape := ⟨2, ![1, 2048]⟩
abbrev S1x64x2048 : Shape := ⟨3, ![1, 64, 2048]⟩
abbrev S1x64x1 : Shape := ⟨3, ![1, 64, 1]⟩

abbrev nBuf : Space → Nat
  | .hbm => 28
  | .vmem => 22
  | .smem => 0
  | _ => 0

abbrev bufTy : (tb : Table) → Fin (tcTables nBuf tb) → BufTy
  | .hbm, ⟨0, _⟩ => ⟨S2x256x2048x16, .f32⟩
  | .hbm, ⟨1, _⟩ => ⟨S2x128x2048x1, .f32⟩
  | .hbm, ⟨2, _⟩ => ⟨S2x1x2048x16, .i32⟩
  | .hbm, ⟨3, _⟩ => ⟨S2x4x16x16x1, .f32⟩
  | .hbm, ⟨4, _⟩ => ⟨S2x4x16x16x1, .f32⟩
  | .hbm, ⟨5, _⟩ => ⟨S192x256, .f32⟩
  | .hbm, ⟨6, _⟩ => ⟨S192x256, .f32⟩
  | .hbm, ⟨7, _⟩ => ⟨S192x256, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S2x256x16x2048, .f32⟩
  | .hbm, ⟨15, _⟩ => ⟨S2x2048x16, .i32⟩
  | .hbm, ⟨16, _⟩ => ⟨S2x16x2048, .i32⟩
  | .hbm, ⟨17, _⟩ => ⟨S2x192x2048, .f32⟩
  | .hbm, ⟨18, _⟩ => ⟨S2x4x2048, .f32⟩
  | .hbm, ⟨19, _⟩ => ⟨S2x128x2048, .f32⟩
  | .hbm, ⟨20, _⟩ => ⟨S64x1, .f32⟩
  | .hbm, ⟨21, _⟩ => ⟨S64x1, .f32⟩
  | .hbm, ⟨22, _⟩ => ⟨S2x64x2048, .f32⟩
  | .hbm, ⟨23, _⟩ => ⟨S2x4x16x16, .f32⟩
  | .hbm, ⟨24, _⟩ => ⟨S2x4x16x16, .f32⟩
  | .hbm, ⟨25, _⟩ => ⟨S2x192x2048x1, .f32⟩
  | .hbm, ⟨26, _⟩ => ⟨S2x64x2048x1, .f32⟩
  | .hbm, ⟨27, _⟩ => ⟨S2x256x2048x1, .f32⟩
  | .local _ .vmem, ⟨0, _⟩ => ⟨S1x16x128, .i32⟩
  | .local _ .vmem, ⟨1, _⟩ => ⟨S1x16x128, .i32⟩
  | .local _ .vmem, ⟨2, _⟩ => ⟨S1x256x16x128, .f32⟩
  | .local _ .vmem, ⟨3, _⟩ => ⟨S1x256x16x128, .f32⟩
  | .local _ .vmem, ⟨4, _⟩ => ⟨S192x256, .f32⟩
  | .local _ .vmem, ⟨5, _⟩ => ⟨S192x256, .f32⟩
  | .local _ .vmem, ⟨6, _⟩ => ⟨S192x256, .f32⟩
  | .local _ .vmem, ⟨7, _⟩ => ⟨S1x192x128, .f32⟩
  | .local _ .vmem, ⟨8, _⟩ => ⟨S1x192x128, .f32⟩
  | .local _ .vmem, ⟨9, _⟩ => ⟨S1x4x2048, .f32⟩
  | .local _ .vmem, ⟨10, _⟩ => ⟨S1x4x2048, .f32⟩
  | .local _ .vmem, ⟨11, _⟩ => ⟨S2x4x2048, .f32⟩
  | .local _ .vmem, ⟨12, _⟩ => ⟨S2x128x2048, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S64x64, .f32⟩
  | .local _ .vmem, ⟨17, _⟩ => ⟨S64x1, .f32⟩
  | .local _ .vmem, ⟨18, _⟩ => ⟨S64x1, .f32⟩
  | .local _ .vmem, ⟨19, _⟩ => ⟨S2x64x2048, .f32⟩
  | .local _ .vmem, ⟨20, _⟩ => ⟨S2x4x16x16, .f32⟩
  | .local _ .vmem, ⟨21, _⟩ => ⟨S2x4x16x16, .f32⟩
  | _, _ => ⟨S2x256x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3_0 : Ref sig .tc := ⟨.hbm, 17, rfl⟩
abbrev main_call0_v3_1 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7_0 : Ref sig .tc := ⟨.hbm, 22, rfl⟩
abbrev main_v0_1 : Ref sig .tc := ⟨.hbm, 23, rfl⟩
abbrev main_v0_2 : Ref sig .tc := ⟨.hbm, 24, rfl⟩
abbrev main_call0_v8 : Ref sig .tc := ⟨.hbm, 25, rfl⟩
abbrev main_call0_v9 : Ref sig .tc := ⟨.hbm, 26, rfl⟩
abbrev main_v0_0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S192x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := .none

abbrev stage1_0 : Fin 1 → Memref sig .tc .vmem S2x4x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x128x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S2x64x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S2x4x16x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S2x4x16x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== ReferenceIdeal.lean ====
abbrev S2x256x2048x16 : Shape := ⟨4, ![2, 256, 2048, 16]⟩
abbrev S2x128x2048x1 : Shape := ⟨4, ![2, 128, 2048, 1]⟩
abbrev S2x1x2048x16 : Shape := ⟨4, ![2, 1, 2048, 16]⟩
abbrev S2x4x16x16x1 : Shape := ⟨5, ![2, 4, 16, 16, 1]⟩
abbrev S192x256 : Shape := ⟨2, ![192, 256]⟩
abbrev S64x128 : Shape := ⟨2, ![64, 128]⟩
abbrev S64x64 : Shape := ⟨2, ![64, 64]⟩
abbrev S64 : Shape := ⟨1, ![64]⟩
abbrev S2x2048x16x192 : Shape := ⟨4, ![2, 2048, 16, 192]⟩
abbrev S2x192x2048x16 : Shape := ⟨4, ![2, 192, 2048, 16]⟩
abbrev S2x4x48x2048x16 : Shape := ⟨5, ![2, 4, 48, 2048, 16]⟩
abbrev S_ : Shape := ⟨0, ![]⟩
abbrev S2x4x2048x16 : Shape := ⟨4, ![2, 4, 2048, 16]⟩
abbrev S2x4x2048 : Shape := ⟨3, ![2, 4, 2048]⟩
abbrev S2x4x2048x1 : Shape := ⟨4, ![2, 4, 2048, 1]⟩
abbrev S2 : Shape := ⟨1, ![2]⟩
abbrev S2x1x1x1 : Shape := ⟨4, ![2, 1, 1, 1]⟩
abbrev S4 : Shape := ⟨1, ![4]⟩
abbrev S1x4x1x1 : Shape := ⟨4, ![1, 4, 1, 1]⟩
abbrev S2048 : Shape := ⟨1, ![2048]⟩
abbrev S1x1x2048x1 : Shape := ⟨4, ![1, 1, 2048, 1]⟩
abbrev S2x4x2048x2048 : Shape := ⟨4, ![2, 4, 2048, 2048]⟩
abbrev S2x4x2048x16x1 : Shape := ⟨5, ![2, 4, 2048, 16, 1]⟩
abbrev S2x4x2048x16x4 : Shape := ⟨5, ![2, 4, 2048, 16, 4]⟩
abbrev S2x4x1x2048 : Shape := ⟨4, ![2, 4, 1, 2048]⟩
abbrev S2x4x1x16 : Shape := ⟨4, ![2, 4, 1, 16]⟩
abbrev S2x4x2048x48 : Shape := ⟨4, ![2, 4, 2048, 48]⟩
abbrev S2x4x48x2048 : Shape := ⟨4, ![2, 4, 48, 2048]⟩
abbrev S2x192x2048x1 : Shape := ⟨4, ![2, 192, 2048, 1]⟩
abbrev S2x2048x1x64 : Shape := ⟨4, ![2, 2048, 1, 64]⟩
abbrev S2x64x2048x1 : Shape := ⟨4, ![2, 64, 2048, 1]⟩
abbrev S2x4x16x2048 : Shape := ⟨4, ![2, 4, 16, 2048]⟩
abbrev S2x4x16x16 : Shape := ⟨4, ![2, 4, 16, 16]⟩
abbrev S1 : Shape := ⟨1, ![1]⟩
abbrev S1x1x1x1x1 : Shape := ⟨5, ![1, 1, 1, 1, 1]⟩
abbrev S1x64x1x1 : Shape := ⟨4, ![1, 64, 1, 1]⟩
abbrev S2x256x2048x1 : Shape := ⟨4, ![2, 256, 2048, 1]⟩

abbrev nBuf : Space → Nat
  | .hbm => 203
  | .vmem => 0
  | .smem => 0
  | _ => 0

abbrev hbmTy0_0 (i : Nat) : BufTy := match i % 128 with
  | 0 => ⟨S2x256x2048x16, .f32⟩
  | 1 => ⟨S2x128x2048x1, .f32⟩
  | 2 => ⟨S2x1x2048x16, .i32⟩
  | 3 => ⟨S2x4x16x16x1, .f32⟩
  | 4 => ⟨S2x4x16x16x1, .f32⟩
  | 5 => ⟨S192x256, .f32⟩
  | 6 => ⟨S192x256, .f32⟩
  | 7 => ⟨S192x256, .f32⟩
  | 8 => ⟨S64x128, .f32⟩
  | 9 => ⟨S64x128, .f32⟩
  | 10 => ⟨S64x128, .f32⟩
  | 11 => ⟨S64x64, .f32⟩
  | 12 => ⟨S64, .f32⟩
  | 13 => ⟨S64, .f32⟩
  | 14 => ⟨S2x2048x16x192, .f32⟩
  | 15 => ⟨S2x192x2048x16, .f32⟩
  | 16 => ⟨S2x2048x16x192, .f32⟩
  | 17 => ⟨S2x192x2048x16, .f32⟩
  | 18 => ⟨S2x2048x16x192, .f32⟩
  | 19 => ⟨S2x192x2048x16, .f32⟩
  | 20 => ⟨S2x4x48x2048x16, .f32⟩
  | 21 => ⟨S2x4x48x2048x16, .f32⟩
  | 22 => ⟨S2x4x48x2048x16, .f32⟩
  | 23 => ⟨S2x4x48x2048x16, .f32⟩
  | 24 => ⟨S_, .f32⟩
  | 25 => ⟨S2x4x2048x16, .f32⟩
  | 26 => ⟨S_, .f32⟩
  | 27 => ⟨S2x4x2048, .f32⟩
  | 28 => ⟨S_, .f32⟩
  | 29 => ⟨S2x4x2048, .f32⟩
  | 30 => ⟨S2x4x2048, .f32⟩
  | 31 => ⟨S2x4x2048x1, .f32⟩
  | 32 => ⟨S2x4x2048x16, .f32⟩
  | 33 => ⟨S2x4x2048x16, .f32⟩
  | 34 => ⟨S2x4x2048x16, .f32⟩
  | 35 => ⟨S_, .f32⟩
  | 36 => ⟨S2x4x2048, .f32⟩
  | 37 => ⟨S2x4x2048x1, .f32⟩
  | 38 => ⟨S2x4x2048x16, .f32⟩
  | 39 => ⟨S2x4x2048x16, .f32⟩
  | 40 => ⟨S2x4x2048x16, .i32⟩
  | 41 => ⟨S2, .i32⟩
  | 42 => ⟨S2x1x1x1, .i32⟩
  | 43 => ⟨S4, .i32⟩
  | 44 => ⟨S1x4x1x1, .i32⟩
  | 45 => ⟨S2048, .i32⟩
  | 46 => ⟨S1x1x2048x1, .i32⟩
  | 47 => ⟨S_, .f32⟩
  | 48 => ⟨S2x4x2048x2048, .f32⟩
  | 49 => ⟨S_, .i32⟩
  | 50 => ⟨S2x1x1x1, .i32⟩
  | 51 => ⟨S2x1x1x1, .i1⟩
  | 52 => ⟨S_, .i32⟩
  | 53 => ⟨S2x1x1x1, .i32⟩
  | 54 => ⟨S2x1x1x1, .i32⟩
  | 55 => ⟨S2x1x1x1, .i32⟩
  | 56 => ⟨S_, .i32⟩
  | 57 => ⟨S1x4x1x1, .i32⟩
  | 58 => ⟨S1x4x1x1, .i1⟩
  | 59 => ⟨S_, .i32⟩
  | 60 => ⟨S1x4x1x1, .i32⟩
  | 61 => ⟨S1x4x1x1, .i32⟩
  | 62 => ⟨S1x4x1x1, .i32⟩
  | 63 => ⟨S_, .i32⟩
  | 64 => ⟨S1x1x2048x1, .i32⟩
  | 65 => ⟨S1x1x2048x1, .i1⟩
  | 66 => ⟨S_, .i32⟩
  | 67 => ⟨S1x1x2048x1, .i32⟩
  | 68 => ⟨S1x1x2048x1, .i32⟩
  | 69 => ⟨S1x1x2048x1, .i32⟩
  | 70 => ⟨S_, .i32⟩
  | 71 => ⟨S2x4x2048x16, .i32⟩
  | 72 => ⟨S2x4x2048x16, .i1⟩
  | 73 => ⟨S_, .i32⟩
  | 74 => ⟨S2x4x2048x16, .i32⟩
  | 75 => ⟨S2x4x2048x16, .i32⟩
  | 76 => ⟨S2x4x2048x16, .i32⟩
  | 77 => ⟨S2x4x2048x16, .i32⟩
  | 78 => ⟨S2x4x2048x16, .i32⟩
  | 79 => ⟨S2x4x2048x16, .i32⟩
  | 80 => ⟨S2x4x2048x16x1, .i32⟩
  | 81 => ⟨S2x4x2048x16x1, .i32⟩
  | 82 => ⟨S2x4x2048x16x1, .i32⟩
  | 83 => ⟨S2x4x2048x16x1, .i32⟩
  | 84 => ⟨S2x4x2048x16x4, .i32⟩
  | 85 => ⟨S2x4x2048x2048, .f32⟩
  | 86 => ⟨S_, .f32⟩
  | 87 => ⟨S2x4x2048, .f32⟩
  | 88 => ⟨S2x4x1x2048, .f32⟩
  | 89 => ⟨S2x4x1x16, .f32⟩
  | 90 => ⟨S2x4x1x16, .i32⟩
  | 91 => ⟨S2x4x2048x48, .f32⟩
  | 92 => ⟨S2x4x48x2048, .f32⟩
  | 93 => ⟨S2x192x2048x1, .f32⟩
  | 94 => ⟨S2x2048x1x64, .f32⟩
  | 95 => ⟨S2x64x2048x1, .f32⟩
  | 96 => ⟨S2x4x16x2048, .f32⟩
  | 97 => ⟨S2x2048x1x64, .f32⟩
  | 98 => ⟨S2x64x2048x1, .f32⟩
  | 99 => ⟨S2x4x16x2048, .f32⟩
  | 100 => ⟨S2x2048x1x64, .f32⟩
  | 101 => ⟨S2x64x2048x1, .f32⟩
  | 102 => ⟨S2x4x16x2048, .f32⟩
  | 103 => ⟨S2x4x16x16, .i32⟩
  | 104 => ⟨S2x4x16x16, .f32⟩
  | 105 => ⟨S_, .i32⟩
  | 106 => ⟨S2x4x16x16, .i32⟩
  | 107 => ⟨S2x4x16x16, .i1⟩
  | 108 => ⟨S_, .i32⟩
  | 109 => ⟨S2x4x16x16, .i32⟩
  | 110 => ⟨S2x4x16x16, .i32⟩
  | 111 => ⟨S2x4x16x16, .i32⟩
  | 112 => ⟨S2x4x16x16x1, .i32⟩
  | 113 => ⟨S1, .i32⟩
  | 114 => ⟨S_, .i32⟩
  | 115 => ⟨S2x4x16x16x1, .i32⟩
  | 116 => ⟨S2x4x16x16x1, .i1⟩
  | 117 => ⟨S1x1x1x1x1, .i32⟩
  | 118 => ⟨S2x4x16x16x1, .i32⟩
  | 119 => ⟨S2x4x16x16x1, .i1⟩
  | 120 => ⟨S2x4x16x16x1, .i1⟩
  | 121 => ⟨S_, .i1⟩
  | 122 => ⟨S2x4x16x16, .i1⟩
  | 123 => ⟨S2x4x16x16, .f32⟩
  | 124 => ⟨S_, .f32⟩
  | 125 => ⟨S2x4x16x16, .f32⟩
  | 126 => ⟨S2x4x16x16, .f32⟩
  | 127 => ⟨S_, .i32⟩
  | _ => ⟨S2x256x2048x16, .f32⟩

abbrev hbmTy0_1 (i : Nat) : BufTy := match i % 128 with
  | 0 => ⟨S2x4x16x16, .i32⟩
  | 1 => ⟨S2x4x16x16, .i1⟩
  | 2 => ⟨S_, .i32⟩
  | 3 => ⟨S2x4x16x16, .i32⟩
  | 4 => ⟨S2x4x16x16, .i32⟩
  | 5 => ⟨S2x4x16x16, .i32⟩
  | 6 => ⟨S2x4x16x16x1, .i32⟩
  | 7 => ⟨S1, .i32⟩
  | 8 => ⟨S_, .i32⟩
  | 9 => ⟨S2x4x16x16x1, .i32⟩
  | 10 => ⟨S2x4x16x16x1, .i1⟩
  | 11 => ⟨S1x1x1x1x1, .i32⟩
  | 12 => ⟨S2x4x16x16x1, .i32⟩
  | 13 => ⟨S2x4x16x16x1, .i1⟩
  | 14 => ⟨S2x4x16x16x1, .i1⟩
  | 15 => ⟨S_, .i1⟩
  | 16 => ⟨S2x4x16x16, .i1⟩
  | 17 => ⟨S2x4x16x16, .f32⟩
  | 18 => ⟨S_, .f32⟩
  | 19 => ⟨S2x4x16x16, .f32⟩
  | 20 => ⟨S2x4x16x16, .f32⟩
  | 21 => ⟨S2x4x16x16, .f32⟩
  | 22 => ⟨S2x4x16x16, .f32⟩
  | 23 => ⟨S2x4x2048x16, .f32⟩
  | 24 => ⟨S2x4x2048x16, .f32⟩
  | 25 => ⟨S_, .f32⟩
  | 26 => ⟨S2x4x2048, .f32⟩
  | 27 => ⟨S_, .f32⟩
  | 28 => ⟨S2x4x2048, .f32⟩
  | 29 => ⟨S2x4x2048, .f32⟩
  | 30 => ⟨S2x4x2048x1, .f32⟩
  | 31 => ⟨S2x4x2048x16, .f32⟩
  | 32 => ⟨S2x4x2048x16, .f32⟩
  | 33 => ⟨S2x4x2048x16, .f32⟩
  | 34 => ⟨S_, .f32⟩
  | 35 => ⟨S2x4x2048, .f32⟩
  | 36 => ⟨S2x4x2048x1, .f32⟩
  | 37 => ⟨S2x4x2048x16, .f32⟩
  | 38 => ⟨S2x4x2048x16, .f32⟩
  | 39 => ⟨S2x4x16x16, .f32⟩
  | 40 => ⟨S2x4x2048x16, .f32⟩
  | 41 => ⟨S2x4x16x2048, .f32⟩
  | 42 => ⟨S2x64x2048x1, .f32⟩
  | 43 => ⟨S2x2048x1x64, .f32⟩
  | 44 => ⟨S2x64x2048x1, .f32⟩
  | 45 => ⟨S_, .f32⟩
  | 46 => ⟨S64, .f32⟩
  | 47 => ⟨S1x64x1x1, .f32⟩
  | 48 => ⟨S_, .f32⟩
  | 49 => ⟨S1x64x1x1, .f32⟩
  | 50 => ⟨S1x64x1x1, .f32⟩
  | 51 => ⟨S2x64x2048x1, .f32⟩
  | 52 => ⟨S2x64x2048x1, .f32⟩
  | 53 => ⟨S2x64x2048x1, .f32⟩
  | 54 => ⟨S_, .f32⟩
  | 55 => ⟨S64, .f32⟩
  | 56 => ⟨S1x64x1x1, .f32⟩
  | 57 => ⟨S_, .f32⟩
  | 58 => ⟨S1x64x1x1, .f32⟩
  | 59 => ⟨S1x64x1x1, .f32⟩
  | 60 => ⟨S2x64x2048x1, .f32⟩
  | 61 => ⟨S2x64x2048x1, .f32⟩
  | 62 => ⟨S_, .f32⟩
  | 63 => ⟨S1x64x1x1, .f32⟩
  | 64 => ⟨S1x64x1x1, .f32⟩
  | 65 => ⟨S1x64x1x1, .f32⟩
  | 66 => ⟨S2x64x2048x1, .f32⟩
  | 67 => ⟨S2x64x2048x1, .f32⟩
  | 68 => ⟨S1x64x1x1, .f32⟩
  | 69 => ⟨S2x64x2048x1, .f32⟩
  | 70 => ⟨S2x64x2048x1, .f32⟩
  | 71 => ⟨S1x64x1x1, .f32⟩
  | 72 => ⟨S2x64x2048x1, .f32⟩
  | 73 => ⟨S2x64x2048x1, .f32⟩
  | 74 => ⟨S2x256x2048x1, .f32⟩
  | _ => ⟨S2x256x2048x16, .f32⟩

abbrev hbmTy (i : Nat) : BufTy := match i / 128 with
  | 0 => hbmTy0_0 i
  | 1 => hbmTy0_1 i
  | _ => ⟨S2x256x2048x16, .f32⟩

abbrev bufTy : (tb : Table) → Fin (tcTables nBuf tb) → BufTy
  | .hbm, ⟨i, _⟩ => hbmTy i
  | _, _ => ⟨S2x256x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_c : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_values : Ref sig .tc := ⟨.hbm, 89, rfl⟩
abbrev main_indices : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call0_c : Ref sig .tc := ⟨.hbm, 105, rfl⟩
abbrev main_call0_v0 : Ref sig .tc := ⟨.hbm, 106, rfl⟩
abbrev main_call0_v1 : Ref sig .tc := ⟨.hbm, 107, rfl⟩
abbrev main_call0_c_0 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_v5 : Ref sig .tc := ⟨.hbm, 112, rfl⟩
abbrev main_call0_c_1 : Ref sig .tc := ⟨.hbm, 113, rfl⟩
abbrev main_call0_c_2 : Ref sig .tc := ⟨.hbm, 114, rfl⟩
abbrev main_call0_v6 : Ref sig .tc := ⟨.hbm, 115, rfl⟩
abbrev main_call0_v7 : Ref sig .tc := ⟨.hbm, 116, rfl⟩
abbrev main_call0_v8 : Ref sig .tc := ⟨.hbm, 117, rfl⟩
abbrev main_call0_v9 : Ref sig .tc := ⟨.hbm, 118, rfl⟩
abbrev main_call0_v10 : Ref sig .tc := ⟨.hbm, 119, rfl⟩
abbrev main_call0_v11 : Ref sig .tc := ⟨.hbm, 120, rfl⟩
abbrev main_call0_c_3 : Ref sig .tc := ⟨.hbm, 121, rfl⟩
abbrev main_call0_v12 : Ref sig .tc := ⟨.hbm, 122, rfl⟩
abbrev main_call0_v13 : Ref sig .tc := ⟨.hbm, 123, rfl⟩
abbrev main_call0_cst : Ref sig .tc := ⟨.hbm, 124, rfl⟩
abbrev main_call0_v14 : Ref sig .tc := ⟨.hbm, 125, rfl⟩
abbrev main_v75 : Ref sig .tc := ⟨.hbm, 126, rfl⟩
abbrev main_call1_c : Ref sig .tc := ⟨.hbm, 127, rfl⟩
abbrev main_call1_v0 : Ref sig .tc := ⟨.hbm, 128, rfl⟩
abbrev main_call1_v1 : Ref sig .tc := ⟨.hbm, 129, rfl⟩
abbrev main_call1_c_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_c_1 : Ref sig .tc := ⟨.hbm, 135, rfl⟩
abbrev main_call1_c_2 : Ref sig .tc := ⟨.hbm, 136, rfl⟩
abbrev main_call1_v6 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_c_3 : Ref sig .tc := ⟨.hbm, 143, rfl⟩
abbrev main_call1_v12 : Ref sig .tc := ⟨.hbm, 144, rfl⟩
abbrev main_call1_v13 : Ref sig .tc := ⟨.hbm, 145, rfl⟩
abbrev main_call1_cst : Ref sig .tc := ⟨.hbm, 146, rfl⟩
abbrev main_call1_v14 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_cst_12 : Ref sig .tc := ⟨.hbm, 153, rfl⟩
abbrev main_v81 : Ref sig .tc := ⟨.hbm, 154, rfl⟩
abbrev main_cst_13 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_cst_14 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_cst_15 : Ref sig .tc := ⟨.hbm, 173, rfl⟩
abbrev main_v98 : Ref sig .tc := ⟨.hbm, 174, rfl⟩
abbrev main_v99 : Ref sig .tc := ⟨.hbm, 175, rfl⟩
abbrev main_cst_16 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_cst_17 : Ref sig .tc := ⟨.hbm, 182, rfl⟩
abbrev main_v105 : Ref sig .tc := ⟨.hbm, 183, rfl⟩
abbrev main_v106 : Ref sig .tc := ⟨.hbm, 184, rfl⟩
abbrev main_cst_18 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_cst_19 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩

abbrev nD : Nat := 1
abbrev τ : Topo := Topo.v7x

variable {F : FTy → Type} [FloatOps F]
-- ==== Proof.Spec.lean ====
/- The mathematics both programs compute, stated once over plain indices: the local attention of each point over its
   neighbours, the scores the attention leaves on the points, the choice of the highest scores, and the non-local
   attention over the chosen points with its normalisation. -/
module

public import Idealize.ShloMosaic.Lib.Pointwise

@[expose] public section

noncomputable section

namespace Cert.Math

open Idealize.ShloMosaic

/-- The greatest of finitely many values, starting from the least extended real. -/
def mx {n : ℕ} (f : Fin n → EReal) : EReal := Finset.univ.fold max ⊥ f

/-- The word both programs start a maximum from is the least extended real. -/
theorem ninf_word : Ideal.ofBits FTy.f32 4286578688#32 = (⊥ : EReal) := by simp [Ideal.ofBits, Ideal.ieee]

/-- The softmax of a finite family. -/
def soft {n : ℕ} (f : Fin n → EReal) (k : Fin n) : EReal :=
  Ideal.div (Ideal.exp (f k - mx f)) (∑ j, Ideal.exp (f j - mx f))

/-- Row `r` of a matrix applied to a vector. -/
def row {a n : ℕ} (W : (⟨2, ![a, n]⟩ : Shape).Idx → EReal) (r : Fin a) (x : Fin n → EReal) : EReal := ∑ i, W (ix2 r i) * x i

/-- The channel `48 g + c` of the 192. -/
abbrev chan (g : Fin 4) (c : Fin 48) : Fin 192 := ⟨g.val * 48 + c.val, by omega⟩

/-- The logit of neighbour vector `x` in head `g`: the inner product of its query and its key. -/
def logit (Wq Wk : (⟨2, ![192, 256]⟩ : Shape).Idx → EReal) (x : Fin 256 → EReal) (g : Fin 4) : EReal :=
  ∑ c : Fin 48, row Wq (chan g c) x * row Wk (chan g c) x

/-- The attention of head `g` over the 16 neighbours of a point with neighbour vectors `X`. -/
def attn (Wq Wk : (⟨2, ![192, 256]⟩ : Shape).Idx → EReal) (X : Fin 16 → Fin 256 → EReal) (g : Fin 4) : Fin 16 → EReal :=
  soft fun k => logit Wq Wk (X k) g

/-- The head a channel of the 192 belongs to. -/
abbrev headOf (r : Fin 192) : Fin 4 := ⟨r.val / 48, by omega⟩

/-- The local result of a point in channel `r`. -/
def loc (Wq Wk Wv : (⟨2, ![192, 256]⟩ : Shape).Idx → EReal) (X : Fin 16 → Fin 256 → EReal) (r : Fin 192) : EReal :=
  ∑ k, row Wv r (X k) * attn Wq Wk X (headOf r) k

/-- One when no later neighbour of the point names the same target, zero otherwise. -/
def keep (D : Fin 16 → BitVec 32) (k : Fin 16) : EReal := if ∃ j, k < j ∧ D j = D k then 0 else 1

/-- What a point leaves on target `m`: the attention of the last neighbour naming it. -/
def leave (D : Fin 16 → BitVec 32) (A : Fin 16 → EReal) (m : ℕ) : EReal :=
  ∑ k, A k * keep D k * if D k = BitVec.ofNat 32 m then 1 else 0

/-- A target no neighbour names gets nothing. -/
theorem leave_none (D : Fin 16 → BitVec 32) (A : Fin 16 → EReal) (m : ℕ) (h : ∀ k, D k ≠ BitVec.ofNat 32 m) : leave D A m = 0 :=
  Finset.sum_eq_zero fun k _ => by rw [if_neg (h k), mul_zero]

/-- A target gets the attention of the last neighbour naming it. -/
theorem leave_last (D : Fin 16 → BitVec 32) (A : Fin 16 → EReal) (m : ℕ) (k₀ : Fin 16) (h : D k₀ = BitVec.ofNat 32 m)
    (hl : ∀ k, k₀ < k → D k ≠ BitVec.ofNat 32 m) : leave D A m = A k₀ := by
  unfold leave
  rw [Finset.sum_eq_single k₀]
  · have hk : ¬∃ j, k₀ < j ∧ D j = D k₀ := fun ⟨j, hj, e⟩ => hl j hj (e.trans h)
    rw [if_pos h, keep, if_neg hk, mul_one, mul_one]
  · intro k _ hk
    by_cases e : D k = BitVec.ofNat 32 m
    · have hlt : k < k₀ := lt_of_le_of_ne (not_lt.1 fun q => hl k q e) hk
      rw [keep, if_pos ⟨k₀, hlt, h.trans e.symm⟩, mul_zero, zero_mul]
    · rw [if_neg e, mul_zero]
  · intro q
    exact absurd (Finset.mem_univ _) q

/-- Either no neighbour names a target or there is a last one that does. -/
theorem last_or_none (D : Fin 16 → BitVec 32) (w : BitVec 32) : (∀ k, D k ≠ w) ∨ ∃ k₀, D k₀ = w ∧ ∀ k, k₀ < k → D k ≠ w := by
  by_cases h : ∃ k, D k = w
  · right
    obtain ⟨k₁, h₁⟩ := h
    have hne : (Finset.univ.filter fun k => D k = w).Nonempty := ⟨k₁, by simp [h₁]⟩
    refine ⟨(Finset.univ.filter fun k => D k = w).max' hne, ?_, fun k hk e => ?_⟩
    · have := Finset.max'_mem _ hne
      simpa using this
    · exact absurd (Finset.le_max' (Finset.univ.filter fun k => D k = w) k (by simp [e])) (not_le.2 hk)
  · left
    exact fun k e => h ⟨k, e⟩

end Cert.Math

end
-- ==== Proof.Stage1.lean ====
/- The first call's block of results, read at an index. -/
module

public import proofs.«01_k».proof.Proof.Spec
public import proofs.«01_k».proof.Proof.Gen.KernelIdeal.Skeleton

@[expose] public section

set_option maxRecDepth 16384

noncomputable section

namespace Cert.KernelIdeal.Stage1

open Idealize.ShloMosaic Idealize.ShloMosaic.TcCoe Idealize.SL.Sem
open Cert.KernelIdeal Cert.KernelIdeal.Gen Cert.Math

/-- The attention block at head `g`, neighbour `k`, point `l` of the tile. -/
theorem pay3_apply (x : Vec Ideal S1x256x16x128 .f32) (wq wk : Vec Ideal S192x256 .f32) (g : Fin 4) (k : Fin 16) (l : Fin 128) :
    k0_pay3 (F := Ideal) x wq wk (ix3 g k l) = attn wq wk (fun k i => x (ix4 (0 : Fin 1) i k l)) g k := by
  pointwise [k0_pay3, k0_pay2, attn, soft, logit, row]
  rw [ninf_word]
  rfl

/-- The block of local results at channel `r`, point `l` of the tile. -/
theorem pay4_apply (x : Vec Ideal S1x256x16x128 .f32) (wq wk wv : Vec Ideal S192x256 .f32) (r : Fin 192) (l : Fin 128) :
    k0_pay4 (F := Ideal) x wq wk wv (ix3 (0 : Fin 1) r l) = loc wq wk wv (fun k i => x (ix4 (0 : Fin 1) i k l)) r := by
  pointwise [k0_pay4, k0_pay2, loc, row]
  simp only [pay3_apply, Nat.div_add_mod', Fin.eta]

/-- The bit "the two indices agree and the second neighbour is later". -/
theorem later_bit (x y : BitVec 32) (j k : Fin 16) :
    IntOp.andi (IntOp.cmpi CmpIPredicate.eq x y) (IntOp.cmpi CmpIPredicate.sgt (BitVec.ofNat 32 j.val) (BitVec.ofNat 32 k.val)) = 1
      ↔ k < j ∧ x = y := by
  have h : (BitVec.ofNat 32 k.val).slt (BitVec.ofNat 32 j.val) = decide (k < j) := by
    revert j k; decide
  have e : (x == y) = decide (x = y) := by by_cases h1 : x = y <;> simp [h1]
  by_cases h1 : x = y <;> by_cases h2 : k < j <;> simp [IntOp.andi, IntOp.cmpi, h, e, h1, h2]

/-- The attention with the entries a later neighbour overwrites set to zero. -/
theorem pay6_apply (a : FVec Ideal S4x16x128 .f32) (d : Vec Ideal S1x16x128 .i32) (g : Fin 4) (k : Fin 16) (l : Fin 128) :
    k0_pay6 (F := Ideal) a d (ix3 g k l) = a (ix3 g k l) * keep (fun j => d (ix3 (0 : Fin 1) j l)) k := by
  pointwise [k0_pay6, k0_pay5]
  rw [ninf_word, keep]
  congr 1
  refine if_congr ?_ rfl rfl
  simp only [Finset.lt_fold_max, Scalar.select, later_bit, Finset.mem_univ, true_and]
  constructor
  · rintro (h | ⟨j, h⟩)
    · simp at h
    · by_cases hc : k < j ∧ d (ix3 (0 : Fin 1) j l) = d (ix3 (0 : Fin 1) k l)
      · exact ⟨j, hc⟩
      · rw [if_neg hc] at h
        simp at h
  · rintro ⟨j, hc⟩
    exact Or.inr ⟨j, by rw [if_pos hc]; exact zero_lt_one⟩

/-- A one-hot entry: the comparison's bit, widened and read as a number. -/
theorem hot_word (a b : BitVec 32) :
    (FloatOps.sitofp (F := Ideal) FTy.f32 (BitVec.setWidth 32 (IntOp.cmpi CmpIPredicate.eq a b)) : EReal) = if a = b then 1 else 0 := by
  have e : (a == b) = decide (a = b) := by by_cases h1 : a = b <;> simp [h1]
  by_cases h : a = b <;> simp [IntOp.cmpi, h, e, FloatOps.sitofp]

/-- A sum of sixteen terms, written out. -/
theorem sum16 (f : Fin 16 → EReal) :
    ∑ k, f k = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- The accumulating block of scores at a tile: what was there plus what the tile's points leave. -/
theorem acc_apply (a : FVec Ideal S4x16x128 .f32) (d : Vec Ideal S1x16x128 .i32) (o : Vec Ideal S1x4x2048 .f32) (g : Fin 4) (m : Fin 2048) :
    k0_pay1 (F := Ideal) (k0_pay17 (k0_pay5 (F := Ideal) d) (k0_pay6 a d) (iota .tc S128x2048 32 [1] iota_S128x2048_d1_w32)
      (k0_pay14 (k0_pay5 (F := Ideal) d) (k0_pay6 a d) (iota .tc S128x2048 32 [1] iota_S128x2048_d1_w32)
        (k0_pay11 (k0_pay5 (F := Ideal) d) (k0_pay6 a d) (iota .tc S128x2048 32 [1] iota_S128x2048_d1_w32)
          (k0_pay8 a d) (k0_pay9 (F := Ideal) d) (k0_pay10 a d))
        (k0_pay12 (F := Ideal) (k0_pay5 (F := Ideal) d) (iota .tc S128x2048 32 [1] iota_S128x2048_d1_w32)) (k0_pay13 (k0_pay6 a d)))
      (k0_pay15 (F := Ideal) (k0_pay5 (F := Ideal) d) (iota .tc S128x2048 32 [1] iota_S128x2048_d1_w32)) (k0_pay16 (k0_pay6 a d)) o)
      (ix3 (0 : Fin 1) g m)
      = o (ix3 (0 : Fin 1) g m) + ∑ l : Fin 128, leave (fun k => d (ix3 (0 : Fin 1) k l)) (fun k => a (ix3 g k l)) m := by
  pointwise [k0_pay1, k0_pay17, k0_pay14, k0_pay11, k0_pay8, k0_pay9, k0_pay10, k0_pay12, k0_pay13, k0_pay15, k0_pay16, k0_pay5]
  simp only [hot_word, pay6_apply, leave]
  rw [Finset.sum_comm]
  rw [sum16]

end Cert.KernelIdeal.Stage1

end
-- ==== Proof.Region0.lean ====
/- The first call's two result arrays, in closed form over the contents it is entered at. -/
module

public import proofs.«01_k».proof.Proof.Stage1
public import proofs.«01_k».proof.Proof.Gen.KernelIdeal.Frame
public import Idealize.ShloMosaic.Lib.Pipeline.ValueKit

@[expose] public section

set_option maxRecDepth 16384

noncomputable section

namespace Cert.KernelIdeal.Region0

open Idealize.ShloMosaic Idealize.ShloMosaic.TcCoe Idealize.SL.Sem
open Idealize.ShloMosaic.Pipeline (Dat)
open Cert.KernelIdeal Cert.KernelIdeal.Gen Cert.KernelIdeal.Stage1 Cert.Math

variable (V : (c : Dev nD) → (b : Ref sig .tc) → Buf (Elt Ideal) ((c : Thread nD τ).loc b))

/-- Which block each window of the first call holds at a grid point. -/
theorem idx : ∀ t : Fin cfg0.N, win0_0.index t = ![t.val / 16, 0, t.val % 16] ∧ win0_1.index t = ![t.val / 16, 0, 0, t.val % 16]
    ∧ win0_2.index t = ![0, 0] ∧ win0_3.index t = ![0, 0] ∧ win0_4.index t = ![0, 0]
    ∧ win0_5.index t = ![t.val / 16, 0, t.val % 16] ∧ win0_6.index t = ![t.val / 16, 0, 0] :=
  (by decide +kernel : ∀ t : Fin grid0.N, _)

/-- The neighbour vectors of point `n` of batch `b`, read off the transposed array. -/
abbrev nbr (XT : Vec Ideal S2x256x16x2048 .f32) (b : Fin 2) (n : Fin 2048) : Fin 16 → Fin 256 → EReal := fun k i => XT (ix4 b i k n)

/-- The array of local results. -/
def locArr (XT : Vec Ideal S2x256x16x2048 .f32) (wq wk wv : Vec Ideal S192x256 .f32) : Vec Ideal S2x192x2048 .f32 :=
  fun i => loc wq wk wv (nbr XT (i 0) (i 2)) (i 1)

/-- The array of scores. -/
def scoreArr (D : Vec Ideal S2x16x2048 .i32) (XT : Vec Ideal S2x256x16x2048 .f32) (wq wk : Vec Ideal S192x256 .f32) : Vec Ideal S2x4x2048 .f32 :=
  fun i => ∑ n : Fin 2048, leave (fun k => D (ix3 (i 0) k n)) (attn wq wk (nbr XT (i 0) n) (i 1)) (i 2)

/-- What the points of one tile leave on target `m` in head `g`. -/
def tileSum (d : Vec Ideal S1x16x128 .i32) (x : Vec Ideal S1x256x16x128 .f32) (wq wk : Vec Ideal S192x256 .f32) (g : Fin 4) (m : Fin 2048) : EReal :=
  ∑ l : Fin 128, leave (fun k => d (ix3 (0 : Fin 1) k l)) (attn wq wk (fun k i => x (ix4 (0 : Fin 1) i k l)) g) m

/-- The accumulating block at any of its indices. -/
theorem acc_at (d : Vec Ideal S1x16x128 .i32) (x : Vec Ideal S1x256x16x128 .f32) (wq wk : Vec Ideal S192x256 .f32) (o : Vec Ideal S1x4x2048 .f32)
    (y : S1x4x2048.Idx) :
    k0_pay1 (F := Ideal) (k0_pay17 (k0_pay5 (F := Ideal) d) (k0_pay6 (k0_pay3 x wq wk) d) (iota .tc S128x2048 32 [1] iota_S128x2048_d1_w32)
      (k0_pay14 (k0_pay5 (F := Ideal) d) (k0_pay6 (k0_pay3 x wq wk) d) (iota .tc S128x2048 32 [1] iota_S128x2048_d1_w32)
        (k0_pay11 (k0_pay5 (F := Ideal) d) (k0_pay6 (k0_pay3 x wq wk) d) (iota .tc S128x2048 32 [1] iota_S128x2048_d1_w32)
          (k0_pay8 (k0_pay3 x wq wk) d) (k0_pay9 (F := Ideal) d) (k0_pay10 (k0_pay3 x wq wk) d))
        (k0_pay12 (F := Ideal) (k0_pay5 (F := Ideal) d) (iota .tc S128x2048 32 [1] iota_S128x2048_d1_w32)) (k0_pay13 (k0_pay6 (k0_pay3 x wq wk) d)))
      (k0_pay15 (F := Ideal) (k0_pay5 (F := Ideal) d) (iota .tc S128x2048 32 [1] iota_S128x2048_d1_w32)) (k0_pay16 (k0_pay6 (k0_pay3 x wq wk) d)) o) y
      = o y + tileSum d x wq wk (y 1) (y 2) := by
  obtain ⟨a, g, m, rfl⟩ : ∃ (a : Fin 1) (g : Fin 4) (m : Fin 2048), y = ix3 a g m := ⟨y 0, y 1, y 2, by ext i; fin_cases i <;> rfl⟩
  obtain rfl : a = 0 := Subsingleton.elim _ _
  refine (acc_apply _ d o g m).trans ?_
  simp only [pay3_apply]
  rfl

/-- The block of local results at any of its indices. -/
theorem pay4_at (x : Vec Ideal S1x256x16x128 .f32) (wq wk wv : Vec Ideal S192x256 .f32) (y : S1x192x128.Idx) :
    k0_pay4 (F := Ideal) x wq wk wv y = loc wq wk wv (fun k i => x (ix4 (0 : Fin 1) i k (y 2))) (y 1) := by
  obtain ⟨a, r, l, rfl⟩ : ∃ (a : Fin 1) (r : Fin 192) (l : Fin 128), y = ix3 a r l := ⟨y 0, y 1, y 2, by ext i; fin_cases i <;> rfl⟩
  obtain rfl : a = 0 := Subsingleton.elim _ _
  exact pay4_apply x wq wk wv r l

/-- The zero fill. -/
theorem zero_at (y : S1x4x2048.Idx) : k0_pay7 (F := Ideal) y = 0 := by
  pointwise [k0_pay7]

/-- The batch of a grid point. -/
abbrev batchOf (t : Fin cfg0.N) : Fin 2 := ⟨t.val / 16, by have : t.val < 32 := lt_of_lt_of_eq t.isLt N_0; omega⟩

/-- The point at position `l` of a grid point's tile. -/
abbrev pointOf (t : Fin cfg0.N) (l : Fin 128) : Fin 2048 := ⟨t.val % 16 * 128 + l.val, by omega⟩

/-- The block of neighbours a step sees: its own run of points of its own batch. -/
theorem read0 (c : Dev nD) (t : Fin cfg0.N) (k : Fin 16) (l : Fin 128) :
    (iblk0 V c 0 t : Vec Ideal S1x16x128 .i32) (ix3 (0 : Fin 1) k l) = (V c main_call0_v2 : Vec Ideal S2x16x2048 .i32) (ix3 (batchOf t) k (pointOf t l)) := by
  blk_ext [iblk0, idx t]

/-- The block of features a step sees: its own run of points of its own batch. -/
theorem read1 (c : Dev nD) (t : Fin cfg0.N) (i : Fin 256) (k : Fin 16) (l : Fin 128) :
    (iblk0 V c 1 t : Vec Ideal S1x256x16x128 .f32) (ix4 (0 : Fin 1) i k l) = (V c main_call0_v0 : Vec Ideal S2x256x16x2048 .f32) (ix4 (batchOf t) i k (pointOf t l)) := by
  blk_ext [iblk0, idx t]

/-- Every step sees the whole query weights. -/
theorem read2 (c : Dev nD) (t : Fin cfg0.N) : iblk0 V c 2 t = V c main_arg5 := by blk_ext! [iblk0, idx t]
/-- Every step sees the whole key weights. -/
theorem read3 (c : Dev nD) (t : Fin cfg0.N) : iblk0 V c 3 t = V c main_arg6 := by blk_ext! [iblk0, idx t]
/-- Every step sees the whole value weights. -/
theorem read4 (c : Dev nD) (t : Fin cfg0.N) : iblk0 V c 4 t = V c main_arg7 := by blk_ext! [iblk0, idx t]

/-- The first result array of the first call. -/
theorem final5 (c : Dev nD) : (dat0 V c).arrAt 5 cfg0.N
    = locArr (V c main_call0_v0) (V c main_arg5) (V c main_arg6) (V c main_arg7) := by
  refine (dat0 V c).arrAt_eq_of_covers 5 _ (by decide +kernel) fun t hf y => ?_
  blk_simp
  rw [after0_5]
  have e : (outsAt0 V c t.val t.isLt).1 = k0_pay4 (F := Ideal) (iblk0 V c 1 t) (iblk0 V c 2 t) (iblk0 V c 3 t) (iblk0 V c 4 t) := by
    funext y
    by_cases h : t.val % 16 = 0
    · rw [outsAt0_A V c t h]; frame_out
    · rw [outsAt0_B V c t h]; frame_out
  rw [e, read2, read3, read4]
  refine (pay4_at (iblk0 V c 1 t) (V c main_arg5) (V c main_arg6) (V c main_arg7) y).trans ?_
  unfold locArr
  have hx : (fun (k : Fin 16) (i : Fin 256) => (iblk0 V c 1 t : Vec Ideal S1x256x16x128 .f32) (ix4 (0 : Fin 1) i k (y 2)))
      = nbr (V c main_call0_v0) (batchOf t) (pointOf t (y 2)) := by
    funext k i
    exact read1 V c t i k (y 2)
  have y0 : (y 0).val = 0 := by have : (y 0).val < 1 := (y 0).isLt; omega
  have e0 : ((View.whole main_call0_v3_0).slice (win0_5.rect t)).emb y 0 = batchOf t := by
    apply Fin.ext; blk_simp [idx t] <;> omega
  have e1 : ((View.whole main_call0_v3_0).slice (win0_5.rect t)).emb y 1 = y 1 := by
    apply Fin.ext; blk_simp [idx t]
  have e2 : ((View.whole main_call0_v3_0).slice (win0_5.rect t)).emb y 2 = pointOf t (y 2) := by
    apply Fin.ext; blk_simp [idx t]
  rw [e0, e1, e2]
  exact congrArg (fun X => loc _ _ _ X (y 1)) hx

/-- The second result array of the first call. -/
theorem final6 (c : Dev nD) : (dat0 V c).arrAt 6 cfg0.N
    = scoreArr (V c main_call0_v2) (V c main_call0_v0) (V c main_arg5) (V c main_arg6) := by
  refine (dat0 V c).arrAt_eq_of_covers 6 _ (by decide +kernel) fun t hf y => ?_
  blk_simp
  rw [after0_6]
  rw [Pipeline.eq_sum_fin_of_reset_step_apply_of_flush (fun n h => (outsAt0 V c n h).2) 16 (fun _ => (0 : EReal))
    (fun t y => tileSum (iblk0 V c 0 t) (iblk0 V c 1 t) (iblk0 V c 2 t) (iblk0 V c 3 t) (y 1) (y 2))
    (fun t h j => by
      rw [outsAt0_A V c t h]; frame_out
      refine (acc_at (iblk0 V c 0 t) (iblk0 V c 1 t) (iblk0 V c 2 t) (iblk0 V c 3 t) _ j).trans ?_
      rw [zero_at])
    (fun t h j => by
      rw [outsAt0_B V c t h]; frame_out
      exact acc_at (iblk0 V c 0 t) (iblk0 V c 1 t) (iblk0 V c 2 t) (iblk0 V c 3 t) _ j)
    t ((flush0_6 t).mp hf) y]
  rw [zero_add]
  unfold scoreArr
  have y0 : (y 0).val = 0 := by have : (y 0).val < 1 := (y 0).isLt; omega
  have e0 : ((View.whole main_call0_v3_1).slice (win0_6.rect t)).emb y 0 = batchOf t := by
    apply Fin.ext; blk_simp [idx t] <;> omega
  have e1 : ((View.whole main_call0_v3_1).slice (win0_6.rect t)).emb y 1 = y 1 := by
    apply Fin.ext; blk_simp [idx t]
  have e2 : ((View.whole main_call0_v3_1).slice (win0_6.rect t)).emb y 2 = y 2 := by
    apply Fin.ext; blk_simp [idx t]
  rw [e0, e1, e2]
  refine Fin.sum_mul_add_congr fun s l hl => ?_
  have ht := (flush0_6 t).mp hf
  have hb : batchOf ⟨16 * (t.val / 16) + s.val, Pipeline.run_point_lt_of_flush t ht s⟩ = batchOf t := by
    apply Fin.ext; show (16 * (t.val / 16) + s.val) / 16 = t.val / 16; omega
  have hp : pointOf ⟨16 * (t.val / 16) + s.val, Pipeline.run_point_lt_of_flush t ht s⟩ l = ⟨s.val * 128 + l.val, hl⟩ := by
    apply Fin.ext; show (16 * (t.val / 16) + s.val) % 16 * 128 + l.val = s.val * 128 + l.val; omega
  rw [read2, read3]
  have hD : (fun k : Fin 16 => (iblk0 V c 0 ⟨16 * (t.val / 16) + s.val, Pipeline.run_point_lt_of_flush t ht s⟩ : Vec Ideal S1x16x128 .i32) (ix3 (0 : Fin 1) k l))
      = fun k => (V c main_call0_v2 : Vec Ideal S2x16x2048 .i32) (ix3 (batchOf t) k ⟨s.val * 128 + l.val, hl⟩) := by
    funext k
    rw [← hb, ← hp]
    exact read0 V c _ k l
  have hX : (fun (k : Fin 16) (i : Fin 256) => (iblk0 V c 1 ⟨16 * (t.val / 16) + s.val, Pipeline.run_point_lt_of_flush t ht s⟩ : Vec Ideal S1x256x16x128 .f32) (ix4 (0 : Fin 1) i k l))
      = nbr (V c main_call0_v0) (batchOf t) ⟨s.val * 128 + l.val, hl⟩ := by
    funext k i
    rw [← hb, ← hp]
    exact read1 V c _ i k l
  exact congr (congr (congrArg leave hD) (congrArg (fun X => attn _ _ X (y 1)) hX)) rfl

end Cert.KernelIdeal.Region0

end
-- ==== Proof.Whole.lean ====
/- The whole kernel's run: the contents every unscoped buffer ends at, and those contents at the three results. -/
module

public import proofs.«01_k».proof.Proof.Region0
public import Idealize.ShloMosaic.Lib.Claim

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Launch

variable {F : FTy → Type} [FloatOps F]

variable (m : (ℓ : Loc nD τ sig) → Buf (Elt F) ℓ) (ρ : Dev nD → PrngReg)

set_option backward.isDefEq.respectTransparency.types false in
/-- Every unscoped buffer of every device ends at the contents of the last segment boundary. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Launch

variable (m : (ℓ : Loc nD τ sig) → Buf (Elt Ideal) ℓ) (ρ : Dev nD → PrngReg)

/-- The features as the first call finds them: the neighbours before the points. -/
theorem V1_v0 (c : Dev nD) : V1 m ρ c main_call0_v0
    = transpose S2x256x16x2048 [0, 1, 3, 2] (m ((c : Thread nD τ).loc main_arg0)) transposes_S2x256x2048x16_S2x256x16x2048_0_1_3_2 := by
  show StableHlo.after hostOps0 (W0 m ρ c) _ = _
  after_results
  try rfl

/-- The neighbours' numbers as the first call finds them: the neighbours before the points. -/
theorem V1_v2 (c : Dev nD) : V1 m ρ c main_call0_v2
    = transpose S2x16x2048 [0, 2, 1] (shapeCast S2x2048x16 (m ((c : Thread nD τ).loc main_arg2)) shapeCasts_S2x1x2048x16_S2x2048x16) transposes_S2x2048x16_S2x16x2048_0_2_1 := by
  show StableHlo.after hostOps0 (W0 m ρ c) _ = _
  after_results
  try rfl

/-- The arguments as the first call finds them. -/
theorem V1_arg5 (c : Dev nD) : V1 m ρ c main_arg5 = m ((c : Thread nD τ).loc main_arg5) := W1_args m ρ c _ (by decide)
/-- The key weights as the first call finds them. -/
theorem V1_arg6 (c : Dev nD) : V1 m ρ c main_arg6 = m ((c : Thread nD τ).loc main_arg6) := W1_args m ρ c _ (by decide)
/-- The value weights as the first call finds them. -/
theorem V1_arg7 (c : Dev nD) : V1 m ρ c main_arg7 = m ((c : Thread nD τ).loc main_arg7) := W1_args m ρ c _ (by decide)

/-- The scores as the second call finds them. -/
theorem V3_score (c : Dev nD) : V3 m ρ c main_call0_v3_1 = (dat0 (V1 m ρ) c).arrAt 6 cfg0.N :=
  (W3_of m ρ c main_call0_v3_1 (by decide)).trans (W2_arr m ρ c 6)

/-- The points' own features as the second call finds them. -/
theorem V3_v4 (c : Dev nD) : V3 m ρ c main_call0_v4
    = shapeCast S2x128x2048 (m ((c : Thread nD τ).loc main_arg1)) shapeCasts_S2x128x2048x1_S2x128x2048 := by
  show StableHlo.after hostOps1 (W2 m ρ c) _ = _
  after_results
  rw [W2_args m ρ c main_arg1 (by decide)]
  try rfl

/-- The normalisation scales as the second call finds them, in a column. -/
theorem V3_v5 (c : Dev nD) : V3 m ρ c main_call0_v5
    = shapeCast S64x1 (m ((c : Thread nD τ).loc main_arg12)) shapeCasts_S64_S64x1 := by
  show StableHlo.after hostOps1 (W2 m ρ c) _ = _
  after_results
  rw [W2_args m ρ c main_arg12 (by decide)]
  try rfl

/-- The normalisation shifts as the second call finds them, in a column. -/
theorem V3_v6 (c : Dev nD) : V3 m ρ c main_call0_v6
    = shapeCast S64x1 (m ((c : Thread nD τ).loc main_arg13)) shapeCasts_S64_S64x1 := by
  show StableHlo.after hostOps1 (W2 m ρ c) _ = _
  after_results
  rw [W2_args m ρ c main_arg13 (by decide)]
  try rfl

/-- The arguments as the second call finds them. -/
theorem V3_arg8 (c : Dev nD) : V3 m ρ c main_arg8 = m ((c : Thread nD τ).loc main_arg8) := W3_args m ρ c _ (by decide)
/-- The key weights of the memory part as the second call finds them. -/
theorem V3_arg9 (c : Dev nD) : V3 m ρ c main_arg9 = m ((c : Thread nD τ).loc main_arg9) := W3_args m ρ c _ (by decide)
/-- The value weights of the memory part as the second call finds them. -/
theorem V3_arg10 (c : Dev nD) : V3 m ρ c main_arg10 = m ((c : Thread nD τ).loc main_arg10) := W3_args m ρ c _ (by decide)
/-- The mixing weights as the second call finds them. -/
theorem V3_arg11 (c : Dev nD) : V3 m ρ c main_arg11 = m ((c : Thread nD τ).loc main_arg11) := W3_args m ρ c _ (by decide)

/-- The second and third results are the second call's last two arrays. -/
theorem W5_v0_1 (c : Dev nD) : W5 m ρ c (Proc.devRef .tc main_v0_1) = (dat1 (V3 m ρ) c).arrAt 9 cfg1.N :=
  (W5_of m ρ c main_v0_1 (by decide)).trans (W4_arr m ρ c 9)
/-- The third result is the second call's last array. -/
theorem W5_v0_2 (c : Dev nD) : W5 m ρ c (Proc.devRef .tc main_v0_2) = (dat1 (V3 m ρ) c).arrAt 10 cfg1.N :=
  (W5_of m ρ c main_v0_2 (by decide)).trans (W4_arr m ρ c 10)

/-- Local channels, then normalised channels, each with a trailing axis of one. -/
def join (a : Vec Ideal S2x192x2048 .f32) (b : Vec Ideal S2x64x2048 .f32) : Vec Ideal S2x256x2048x1 .f32 :=
  concatenate S2x256x2048x1 1
    [⟨S2x192x2048x1, shapeCast S2x192x2048x1 a shapeCasts_S2x192x2048_S2x192x2048x1⟩,
     ⟨S2x64x2048x1, shapeCast S2x64x2048x1 b shapeCasts_S2x64x2048_S2x64x2048x1⟩]
    concatenates_S2x192x2048x1_S2x64x2048x1_S2x256x2048x1_d1

/-- What the last host operations make of the contents they start from. -/
theorem join_after (W : Valuation τ sig (Elt Ideal)) : StableHlo.after hostOps2 W (Proc.devRef .tc main_v0_0)
    = join (W (Proc.devRef .tc main_call0_v3_0)) (W (Proc.devRef .tc main_call0_v7_0)) := by
  after_results
  rfl

/-- The first result joins the first call's local results and the second call's normalised array. -/
theorem W5_v0_0 (c : Dev nD) : W5 m ρ c (Proc.devRef .tc main_v0_0)
    = join ((dat0 (V1 m ρ) c).arrAt 5 cfg0.N) ((dat1 (V3 m ρ) c).arrAt 8 cfg1.N) := by
  have h1 : W4 m ρ c (Proc.devRef .tc main_call0_v3_0) = (dat0 (V1 m ρ) c).arrAt 5 cfg0.N :=
    ((W4_of m ρ c main_call0_v3_0 (by decide)).trans (W3_of m ρ c main_call0_v3_0 (by decide))).trans (W2_arr m ρ c 5)
  have h2 : W4 m ρ c (Proc.devRef .tc main_call0_v7_0) = (dat1 (V3 m ρ) c).arrAt 8 cfg1.N := W4_arr m ρ c 8
  exact (join_after (W4 m ρ c)).trans (congr (congrArg join h1) h2)

end Cert.KernelIdeal.Whole

end
-- ==== Proof.Rank.lean ====
/- The order in which the greatest elements of a row are taken: by a stable sort, and by rounds that take the greatest and strike it out. -/
module

public import Idealize.ShloMosaic.Lib.SortFacts
public import proofs.«01_k».proof.Proof.Spec

@[expose] public section

set_option maxRecDepth 16384

noncomputable section

namespace Cert.Math

open Idealize.ShloMosaic

/-- The position of the `k`-th greatest element of a row, equal elements in the order of their positions. -/
def rank {n : ℕ} (s : Fin n → EReal) : Fin n → Fin n := sortedFrom fun a b => decide (s b < s a)

/-- `a` comes before `b`: a greater element, or an equal one at a lower position. -/
def ahead {n : ℕ} (s : Fin n → EReal) (a b : Fin n) : Prop := s b < s a ∨ (s b = s a ∧ a < b)

instance {n : ℕ} (s : Fin n → EReal) (a b : Fin n) : Decidable (ahead s a b) := by unfold ahead; infer_instance

/-- On positions listed in order, the stable sort by the elements is the sort by elements and positions. -/
theorem stableSort_ahead {n : ℕ} (s : Fin n → EReal) : ∀ l : List (Fin n), l.Pairwise (· < ·) →
    stableSort (fun a b => decide (s b < s a)) l = stableSort (fun a b => decide (ahead s a b)) l
  | [], _ => rfl
  | a :: l, h => by
    rw [List.pairwise_cons] at h
    show insertBefore _ a (stableSort _ l) = insertBefore _ a (stableSort _ l)
    rw [stableSort_ahead s l h.2]
    refine insertBefore_congr _ _ a _ fun b hb => ?_
    have hab : a < b := h.1 b ((perm_stableSort _ l).mem_iff.1 hb)
    refine decide_eq_decide.2 ⟨Or.inl, ?_⟩
    rintro (q | ⟨_, q⟩)
    · exact q
    · exact absurd q (not_lt.2 hab.le)

/-- `rank` sorts by elements and positions. -/
theorem rank_eq {n : ℕ} (s : Fin n → EReal) : rank s = sortedFrom fun a b => decide (ahead s a b) := by
  funext k
  have e : sortPositions n (fun a b => decide (s b < s a)) = sortPositions n (fun a b => decide (ahead s a b)) :=
    stableSort_ahead s _ (List.pairwise_lt_finRange n)
  unfold rank sortedFrom
  rw [List.get_of_eq e]
  rfl

/-- Distinct positions are ordered one way or the other. -/
theorem ahead_total {n : ℕ} (s : Fin n → EReal) {a b : Fin n} (h : a ≠ b) (hn : ¬ahead s b a) : ahead s a b := by
  unfold ahead at *
  push Not at hn
  rcases lt_or_eq_of_le hn.1 with q | q
  · exact Or.inl q
  · exact Or.inr ⟨q, lt_of_le_of_ne (hn.2 q.symm) h⟩

/-- An earlier rank comes ahead of a later one. -/
theorem rank_ahead {n : ℕ} (s : Fin n → EReal) {i j : Fin n} (h : i < j) : ahead s (rank s i) (rank s j) := by
  refine ahead_total s (fun e => h.ne (sortedFrom_injective _ e)) fun hn => ?_
  rw [rank_eq] at hn
  have := sortedFrom_noInversion (fun a b => decide (ahead s a b)) (fun a b => decide (ahead s a b))
    (fun a b q => by
      simp only [decide_eq_true_eq, decide_eq_false_iff_not] at q ⊢
      rintro (r | ⟨r, r'⟩) <;> rcases q with q | ⟨q, q'⟩
      · exact lt_asymm q r
      · exact absurd r (by rw [q]; exact lt_irrefl _)
      · exact absurd q (by rw [r]; exact lt_irrefl _)
      · exact lt_asymm q' r') (fun a b q => q)
    (fun a b c q r => by
      simp only [decide_eq_false_iff_not] at q r ⊢
      unfold ahead at *
      push Not at q r
      rintro (t | ⟨t, t'⟩)
      · exact absurd t (not_lt.2 (q.1.trans r.1))
      · have e1 : s a = s b := le_antisymm q.1 (r.1.trans t.le)
        have e2 : s b = s c := e1.symm.trans t.symm
        exact absurd t' (not_lt.2 ((r.2 e2.symm).trans (q.2 e1.symm)))) i j h
  simp only [decide_eq_false_iff_not] at this
  exact this hn

/-- The row after `r` rounds: the first `r` ranks struck out. -/
def work {n : ℕ} (s : Fin n → EReal) (r : ℕ) (m : Fin n) : EReal := if ∃ j : Fin n, j.val < r ∧ m = rank s j then ⊥ else s m

/-- Before the first round nothing is removed. -/
theorem work_zero {n : ℕ} (s : Fin n → EReal) (m : Fin n) : work s 0 m = s m := if_neg fun ⟨_, h, _⟩ => absurd h (Nat.not_lt_zero _)

/-- A round removes the entry it ranks. -/
theorem work_succ {n : ℕ} (s : Fin n → EReal) (r : Fin n) (m : Fin n) :
    work s (r.val + 1) m = if m = rank s r then ⊥ else work s r.val m := by
  unfold work
  by_cases e : m = rank s r
  · rw [if_pos e, if_pos ⟨r, Nat.lt_succ_self _, e⟩]
  · rw [if_neg e]
    refine if_congr ⟨fun ⟨j, h, q⟩ => ⟨j, ?_, q⟩, fun ⟨j, h, q⟩ => ⟨j, Nat.lt_succ_of_lt h, q⟩⟩ rfl rfl
    rcases Nat.lt_succ_iff_lt_or_eq.1 h with h | h
    · exact h
    · exact absurd (q.trans (congrArg _ (Fin.ext h))) e

/-- What is left at a rank not yet taken. -/
theorem work_rank {n : ℕ} (s : Fin n → EReal) {r : ℕ} {j : Fin n} (h : r ≤ j.val) : work s r (rank s j) = s (rank s j) :=
  if_neg fun ⟨i, hi, e⟩ => absurd (congrArg Fin.val (sortedFrom_injective _ e)) (by omega)

/-- The greatest element left is the next rank's. -/
theorem work_le {n : ℕ} (s : Fin n → EReal) (r m : Fin n) : work s r.val m ≤ s (rank s r) := by
  obtain ⟨j, rfl⟩ : ∃ j, rank s j = m := sortedFrom_surjective _ m
  rcases lt_trichotomy j.val r.val with h | h | h
  · unfold work
    rw [if_pos ⟨j, h, rfl⟩]
    exact bot_le
  · rw [work_rank s h.ge, Fin.ext h]
  · rw [work_rank s h.le]
    rcases rank_ahead s (Fin.lt_def.2 h) with q | ⟨q, _⟩
    · exact q.le
    · exact q.le

/-- The lowest position of the greatest element left is the next rank. -/
theorem rank_least {n : ℕ} (s : Fin n → EReal) (hs : ∀ m, ⊥ < s m) (r m : Fin n) (h : work s r.val m = s (rank s r)) : rank s r ≤ m := by
  obtain ⟨j, rfl⟩ : ∃ j, rank s j = m := sortedFrom_surjective _ m
  rcases lt_trichotomy j.val r.val with q | q | q
  · unfold work at h
    rw [if_pos ⟨j, q, rfl⟩] at h
    exact absurd (hs (rank s r)) (by rw [← h]; exact lt_irrefl _)
  · rw [Fin.ext q]
  · rw [work_rank s q.le] at h
    rcases rank_ahead s (Fin.lt_def.2 q) with t | ⟨_, t⟩
    · exact absurd t (by rw [h]; exact lt_irrefl _)
    · exact t.le

end Cert.Math

end
-- ==== Proof.Rounds.lean ====
/- The second call's selection: sixteen rounds, each taking a row's greatest element and striking it out. -/
module

public import proofs.«01_k».proof.Proof.Rank
public import proofs.«01_k».proof.Proof.Gen.KernelIdeal.Skeleton
public import Idealize.ShloMosaic.Lib.Pipeline.ValueKit
public import Idealize.ShloMosaic.Lib.SortNet.Extract

@[expose] public section

set_option maxRecDepth 16384

noncomputable section

namespace Cert.KernelIdeal.Select

open Idealize.ShloMosaic Idealize.ShloMosaic.TcCoe Idealize.SL.Sem
open Cert.KernelIdeal Cert.KernelIdeal.Gen Cert.Math

/-- The positions along a row. -/
def iotaR : IVec S8x2048 32 := iota .tc S8x2048 32 [1] iota_S8x2048_d1_w32

/-- Each row's greatest element. -/
def maxR (W : FVec Ideal S8x2048 .f32) : FVec Ideal S8x1 .f32 :=
  shapeCast S8x1 (multiReduction .maximumf [1] S8 W 0xFF800000#32 reduces_S8x2048_S8 (.inl rfl) rfl) shapeCasts_S8_S8x1

/-- Where a row's greatest element stands. -/
def maskR (W : FVec Ideal S8x2048 .f32) : IVec S8x2048 1 := cmpf .oeq W (broadcastTo S8x2048 (maxR W) broadcasts_S8x1_S8x2048)

/-- The lowest such position. -/
def argR (W : FVec Ideal S8x2048 .f32) : IVec S8x1 32 :=
  shapeCast S8x1 (multiReductionI .minsi [1] S8 (select (maskR W) iotaR (broadcast S8x2048 2048#32)) 2147483647#32 reduces_S8x2048_S8 rfl) shapeCasts_S8_S8x1

/-- The rows with that position struck out. -/
def nextR (W : FVec Ideal S8x2048 .f32) : FVec Ideal S8x2048 .f32 :=
  select (cmpi .eq iotaR (broadcastTo S8x2048 (argR W) broadcasts_S8x1_S8x2048)) (broadcast S8x2048 (Scalar.ofBits (F := Ideal) .f32 0xFF800000#32)) W

/-- Rows in the state they have after `r` rounds. -/
def After {s : Fin 8 → Fin 2048 → EReal} (W : FVec Ideal S8x2048 .f32) (r : ℕ) : Prop := ∀ q m, W (ix2 q m) = work (s q) r m

variable {s : Fin 8 → Fin 2048 → EReal} (hs : ∀ q m, ⊥ < s q m)

/-- Round `r` finds the `r`-th greatest element. -/
theorem maxR_at {W : FVec Ideal S8x2048 .f32} (r : Fin 2048) (h : After (s := s) W r.val) (q : Fin 8) :
    maxR W (ix2 q (0 : Fin 1)) = s q (rank (s q) r) := by
  have e : maxR W (ix2 q (0 : Fin 1)) = Finset.fold max (⊥ : EReal) (fun m : Fin 2048 => W (ix2 q m)) Finset.univ := by
    pointwise [maxR]
    rw [ninf_word]
  rw [e]
  refine le_antisymm ((Finset.fold_max_le _).2 ⟨bot_le, fun m _ => ?_⟩) ((Finset.le_fold_max _).2 (Or.inr ⟨rank (s q) r, Finset.mem_univ _, ?_⟩))
  · rw [h]; exact work_le _ r m
  · rw [h, work_rank _ le_rfl]

include hs in
/-- Round `r` finds it at its rank's position. -/
theorem argR_at {W : FVec Ideal S8x2048 .f32} (r : Fin 2048) (h : After (s := s) W r.val) (q : Fin 8) :
    argR W (ix2 q (0 : Fin 1)) = BitVec.ofNat 32 (rank (s q) r).val := by
  have small : ∀ v : ℕ, v ≤ 2048 → (BitVec.ofNat 32 v).toInt = (v : ℤ) := fun v hv => by
    rw [BitVec.toInt_eq_toNat_of_lt (by simp only [BitVec.toNat_ofNat]; omega), BitVec.toNat_ofNat, Nat.mod_eq_of_lt (by omega)]
  have hm : ∀ m : Fin 2048, maskR W (ix2 q m) = BitVec.ofBool (decide (work (s q) r.val m = s q (rank (s q) r))) := fun m => by
    rw [← h q m, ← maxR_at r h q]
    pointwise [maskR]
  have e : argR W (ix2 q (0 : Fin 1)) = Finset.fold IntOp.minsi (2147483647#32)
      (fun m : Fin 2048 => Scalar.select (maskR W (ix2 q m)) (BitVec.ofNat 32 m.val) 2048#32) Finset.univ := by
    pointwise [argR, iotaR]
  have em : ∀ m : Fin 2048, (Scalar.select (maskR W (ix2 q m)) (BitVec.ofNat 32 m.val) 2048#32).toInt
      = if work (s q) r.val m = s q (rank (s q) r) then (m.val : ℤ) else 2048 := fun m => by
    rw [hm, Scalar.select_ofBool]
    by_cases c : work (s q) r.val m = s q (rank (s q) r)
    · rw [if_pos c]; simp only [c, decide_true, if_true]; exact small _ m.isLt.le
    · rw [if_neg c]; simp only [c, decide_false, Bool.false_eq_true, if_false]; exact small 2048 le_rfl
  refine BitVec.eq_of_toInt_eq ?_
  rw [e, small _ (rank (s q) r).isLt.le, ← Finset.fold_hom (op' := min) (m := BitVec.toInt) fun a b => SortNet.toInt_minsi a b]
  simp only [em]
  refine le_antisymm ((Finset.fold_min_le _).2 (Or.inr ⟨rank (s q) r, Finset.mem_univ _, ?_⟩)) ((Finset.le_fold_min _).2 ⟨?_, fun m _ => ?_⟩)
  · rw [if_pos (work_rank _ le_rfl)]
  · have := (rank (s q) r).isLt
    have e2 : (2147483647#32 : BitVec 32).toInt = 2147483647 := by decide
    rw [e2]; omega
  · split
    · rename_i c
      exact_mod_cast rank_least (s q) (hs q) r m c
    · have := (rank (s q) r).isLt
      omega

include hs in
/-- Round `r` leaves the rows as they are after `r + 1` rounds. -/
theorem nextR_at {W : FVec Ideal S8x2048 .f32} (r : Fin 2048) (h : After (s := s) W r.val) : After (s := s) (nextR W) (r.val + 1) := by
  intro q m
  rw [work_succ]
  have e : nextR W (ix2 q m) = Scalar.select (IntOp.cmpi CmpIPredicate.eq (BitVec.ofNat 32 m.val) (argR W (ix2 q (0 : Fin 1)))) (⊥ : EReal) (W (ix2 q m)) := by
    pointwise [nextR, iotaR]
    rw [ninf_word]
  rw [e, argR_at hs r h, h]
  by_cases c : m = rank (s q) r
  · rw [if_pos c, c]
    show Scalar.select (BitVec.ofBool (_ == _)) _ _ = _
    rw [Scalar.select_ofBool]
    simp
  · rw [if_neg c]
    show Scalar.select (BitVec.ofBool (_ == _)) _ _ = _
    rw [Scalar.select_ofBool]
    have : ¬BitVec.ofNat 32 m.val = BitVec.ofNat 32 (rank (s q) r).val := fun e => c (Fin.ext (by
      have := congrArg BitVec.toNat e
      simp only [BitVec.toNat_ofNat] at this
      have h1 := m.isLt
      have h2 := (rank (s q) r).isLt
      omega))
    simp [this]

/-- The rows the rounds start from. -/
def rowsOf (x : Vec Ideal S2x4x2048 .f32) (q : Fin 8) (m : Fin 2048) : EReal :=
  x (ix3 (⟨q.val / 4, by omega⟩ : Fin 2) (⟨q.val % 4, by omega⟩ : Fin 4) m)

/-- The rows after `n` rounds. -/
def rows (x : Vec Ideal S2x4x2048 .f32) : ℕ → FVec Ideal S8x2048 .f32
  | 0 => k1_pay2 x
  | n + 1 => nextR (rows x n)

/-- After any number of rounds the kernel's scores are the scores with the entries ranked so far removed. -/
theorem rows_at (x : Vec Ideal S2x4x2048 .f32) (hx : ∀ q m, ⊥ < rowsOf x q m) : ∀ n, n < 2048 → After (s := rowsOf x) (rows x n) n
  | 0, _ => fun q m => by
    rw [work_zero]
    show k1_pay2 x (ix2 q m) = _
    pointwise [k1_pay2]
    rfl
  | n + 1, h => nextR_at hx ⟨n, by omega⟩ (rows_at x hx n (by omega))

end Cert.KernelIdeal.Select

end
-- ==== Proof.Canon.lean ====
/- The payloads of the second call, each as the round or the head stage it is. -/
module

public import proofs.«01_k».proof.Proof.Rounds

@[expose] public section

set_option maxRecDepth 16384

noncomputable section

namespace Cert.KernelIdeal.Select

open Idealize.ShloMosaic Idealize.ShloMosaic.TcCoe Idealize.SL.Sem
open Cert.KernelIdeal Cert.KernelIdeal.Gen Cert.Math

/-- The candidates of a round: the position where the row's greatest element stands, 2048 elsewhere. -/
def candR (W : FVec Ideal S8x2048 .f32) : IVec S8x2048 32 := select (maskR W) iotaR (broadcast S8x2048 2048#32)

/-- The position a round strikes out. -/
def hitR (W : FVec Ideal S8x2048 .f32) : IVec S8x2048 1 := cmpi .eq iotaR (broadcastTo S8x2048 (argR W) broadcasts_S8x1_S8x2048)

/-- The sixteen selected positions of every row. -/
def topIdx (x : Vec Ideal S2x4x2048 .f32) : IVec S8x16 32 :=
  concatenate S8x16 1 [⟨S8x1, argR (rows x 0)⟩, ⟨S8x1, argR (rows x 1)⟩, ⟨S8x1, argR (rows x 2)⟩, ⟨S8x1, argR (rows x 3)⟩, ⟨S8x1, argR (rows x 4)⟩, ⟨S8x1, argR (rows x 5)⟩, ⟨S8x1, argR (rows x 6)⟩, ⟨S8x1, argR (rows x 7)⟩, ⟨S8x1, argR (rows x 8)⟩, ⟨S8x1, argR (rows x 9)⟩, ⟨S8x1, argR (rows x 10)⟩, ⟨S8x1, argR (rows x 11)⟩, ⟨S8x1, argR (rows x 12)⟩, ⟨S8x1, argR (rows x 13)⟩, ⟨S8x1, argR (rows x 14)⟩, ⟨S8x1, argR (rows x 15)⟩] concatenates_S8x1_S8x1_S8x1_S8x1_S8x1_S8x1_S8x1_S8x1_S8x1_S8x1_S8x1_S8x1_S8x1_S8x1_S8x1_S8x1_S8x16_d1

/-- The gates of the sixteen selected positions of every row. -/
def gates (x : Vec Ideal S2x4x2048 .f32) : FVec Ideal S8x16 .f32 :=
  tanh (concatenate S8x16 1 [⟨S8x1, maxR (rows x 0)⟩, ⟨S8x1, maxR (rows x 1)⟩, ⟨S8x1, maxR (rows x 2)⟩, ⟨S8x1, maxR (rows x 3)⟩, ⟨S8x1, maxR (rows x 4)⟩, ⟨S8x1, maxR (rows x 5)⟩, ⟨S8x1, maxR (rows x 6)⟩, ⟨S8x1, maxR (rows x 7)⟩, ⟨S8x1, maxR (rows x 8)⟩, ⟨S8x1, maxR (rows x 9)⟩, ⟨S8x1, maxR (rows x 10)⟩, ⟨S8x1, maxR (rows x 11)⟩, ⟨S8x1, maxR (rows x 12)⟩, ⟨S8x1, maxR (rows x 13)⟩, ⟨S8x1, maxR (rows x 14)⟩, ⟨S8x1, maxR (rows x 15)⟩] concatenates_S8x1_S8x1_S8x1_S8x1_S8x1_S8x1_S8x1_S8x1_S8x1_S8x1_S8x1_S8x1_S8x1_S8x1_S8x1_S8x1_S8x16_d1)

/-- The positions down a column. -/
def iotaC : IVec S2048x16 32 := iota .tc S2048x16 32 [0] iota_S2048x16_d0_w32

/-- A 64-row projection of one batch. -/
def projA (w : Vec Ideal S64x128 .f32) (x : Vec Ideal S1x128x2048 .f32) : FVec Ideal S64x2048 .f32 := k1_pay58 w x

/-- The one-hot columns of row `r` of the selected positions. -/
def hot (r : ℕ) (h : S8x16.Slices ![r, 0] S1x16) (T : IVec S8x16 32) : FVec Ideal S2048x16 .f32 :=
  sitofp .f32 (extui 32 (cmpi .eq iotaC (broadcastTo S2048x16 (shapeCast S1x16 (shapeCast S16 (extractStridedSlice S1x16 ![r, 0] T h) shapeCasts_S1x16_S16) shapeCasts_S16_S1x16) broadcasts_S1x16_S2048x16)) natLt_1_32)

/-- One head's sixteen rows. -/
def band (o : ℕ) (h : S64x2048.Slices ![o, 0] S16x2048) (A : FVec Ideal S64x2048 .f32) : FVec Ideal S16x2048 .f32 :=
  extractStridedSlice S16x2048 ![o, 0] A h

/-- The columns a one-hot matrix picks. -/
def pick (A : FVec Ideal S16x2048 .f32) (H : FVec Ideal S2048x16 .f32) : FVec Ideal S16x16 .f32 :=
  matmul dot_S16x2048_S2048x16_S16x16_1_0_0_1_n_n (some .fp32) A H (constant S16x16 .f32 0x00000000#32)

/-- Row `r` of the gates, over the channels. -/
def gate (r : ℕ) (h : S8x16.Slices ![r, 0] S1x16) (G : FVec Ideal S8x16 .f32) : FVec Ideal S16x16 .f32 :=
  broadcastTo S16x16 (shapeCast S1x16 (shapeCast S16 (extractStridedSlice S1x16 ![r, 0] G h) shapeCasts_S1x16_S16) shapeCasts_S16_S1x16) broadcasts_S1x16_S16x16

/-- A block as the tile it is stored as. -/
def pack (M : FVec Ideal S16x16 .f32) : FVec Ideal S1x1x16x16 .f32 := shapeCast S1x1x16x16 M shapeCasts_S16x16_S1x1x16x16

/-- One head's logits over its sixteen memory columns. -/
def logitA (L : FVec Ideal S16x2048 .f32) (K : FVec Ideal S16x16 .f32) : FVec Ideal S16x2048 .f32 :=
  matmul dot_S16x16_S16x2048_S16x2048_0_0_1_1_n_n none (truncf .bf16 K bitsLt_bf16_f32) (truncf .bf16 L bitsLt_bf16_f32) (constant S16x2048 .f32 0x00000000#32)

/-- The exponentials of one head's shifted logits. -/
def expA (Z : FVec Ideal S16x2048 .f32) : FVec Ideal S16x2048 .f32 :=
  exp (subf Z (broadcastTo S16x2048 (shapeCast S1x2048 (multiReduction .maximumf [0] S2048 Z 0xFF800000#32 reduces_S16x2048_S2048 (.inl rfl) rfl) shapeCasts_S2048_S1x2048) broadcasts_S1x2048_S16x2048))

/-- The weights of one head. -/
def softA (E : FVec Ideal S16x2048 .f32) : FVec Ideal S16x2048 .f32 :=
  divf E (broadcastTo S16x2048 (shapeCast S1x2048 (multiReduction .add [0] S2048 E 0x00000000#32 reduces_S16x2048_S2048 (.inl rfl) rfl) shapeCasts_S2048_S1x2048) broadcasts_S1x2048_S16x2048)

/-- One head's attention over its sixteen memory columns. -/
def headA (L : FVec Ideal S16x2048 .f32) (K M : FVec Ideal S16x16 .f32) : FVec Ideal S16x2048 .f32 :=
  matmul dot_S16x16_S16x2048_S16x2048_1_0_0_1_n_n none (truncf .bf16 M bitsLt_bf16_f32) (truncf .bf16 (softA (expA (logitA L K))) bitsLt_bf16_f32) (constant S16x2048 .f32 0x00000000#32)

/-- The mixing of the four heads. -/
def mixA (a b c d : FVec Ideal S16x2048 .f32) (w : Vec Ideal S64x64 .f32) : FVec Ideal S1x64x2048 .f32 :=
  shapeCast S1x64x2048 (matmul dot_S64x64_S64x2048_S64x2048_1_0_0_1_n_n none (truncf .bf16 w bitsLt_bf16_f32)
    (truncf .bf16 (concatenate S64x2048 0 [⟨S16x2048, a⟩, ⟨S16x2048, b⟩, ⟨S16x2048, c⟩, ⟨S16x2048, d⟩] concatenates_S16x2048_S16x2048_S16x2048_S16x2048_S64x2048_d0) bitsLt_bf16_f32) (constant S64x2048 .f32 0x00000000#32)) shapeCasts_S64x2048_S1x64x2048

/-- The scores before the first round, one row for each batch and head. -/
theorem at2 (x : Vec Ideal S2x4x2048 .f32) : k1_pay2 (F := Ideal) x = rows x 0 := rfl

/-- The largest scores of round 0. -/
theorem at3 (x : Vec Ideal S2x4x2048 .f32) : k1_pay3 (F := Ideal) x = maxR (rows x 0) := rfl

/-- The first places of the largest scores of round 0. -/
theorem at4 (x : Vec Ideal S2x4x2048 .f32) : k1_pay4 (F := Ideal) x = argR (rows x 0) := rfl

/-- The scores after 1 rounds. -/
theorem at5 (x : Vec Ideal S2x4x2048 .f32) : k1_pay5 (F := Ideal) x = rows x 1 := rfl

/-- The largest scores of round 1. -/
theorem at6 (x : Vec Ideal S2x4x2048 .f32) : k1_pay6 (F := Ideal) x = maxR (rows x 1) := rfl

/-- The first places of the largest scores of round 1. -/
theorem at7 (x : Vec Ideal S2x4x2048 .f32) : k1_pay7 (F := Ideal) x = argR (rows x 1) := rfl

/-- The scores after 2 rounds. -/
theorem at8 (x : Vec Ideal S2x4x2048 .f32) : k1_pay8 (F := Ideal) x = rows x 2 := rfl

/-- The largest scores of round 2. -/
theorem at9 (x : Vec Ideal S2x4x2048 .f32) : k1_pay9 (F := Ideal) x = maxR (rows x 2) := rfl

/-- The first places of the largest scores of round 2. -/
theorem at10 (x : Vec Ideal S2x4x2048 .f32) : k1_pay10 (F := Ideal) x = argR (rows x 2) := rfl

/-- The scores after 3 rounds. -/
theorem at11 (x : Vec Ideal S2x4x2048 .f32) : k1_pay11 (F := Ideal) x = rows x 3 := rfl

/-- The largest scores of round 3. -/
theorem at12 (x : Vec Ideal S2x4x2048 .f32) : k1_pay12 (F := Ideal) x = maxR (rows x 3) := rfl

/-- Where round 3 meets its largest score. -/
theorem at13 (x : Vec Ideal S2x4x2048 .f32) : k1_pay13 (F := Ideal) x = maskR (rows x 3) := rfl

/-- The first places of the largest scores of round 3. -/
theorem at14 (x : Vec Ideal S2x4x2048 .f32) : k1_pay14 iotaR (maskR (rows x 3)) = argR (rows x 3) := rfl

/-- The scores after 4 rounds. -/
theorem at15 (x : Vec Ideal S2x4x2048 .f32) : k1_pay15 (F := Ideal) iotaR (rows x 3) (maskR (rows x 3)) = rows x 4 := rfl

/-- The largest scores of round 4. -/
theorem at16 (x : Vec Ideal S2x4x2048 .f32) : k1_pay16 (F := Ideal) iotaR (rows x 3) (maskR (rows x 3)) = maxR (rows x 4) := rfl

/-- The first places of the largest scores of round 4. -/
theorem at17 (x : Vec Ideal S2x4x2048 .f32) : k1_pay17 (F := Ideal) iotaR (rows x 3) (maskR (rows x 3)) = argR (rows x 4) := rfl

/-- The scores after 5 rounds. -/
theorem at18 (x : Vec Ideal S2x4x2048 .f32) : k1_pay18 (F := Ideal) iotaR (rows x 3) (maskR (rows x 3)) = rows x 5 := rfl

/-- The largest scores of round 5. -/
theorem at19 (x : Vec Ideal S2x4x2048 .f32) : k1_pay19 (F := Ideal) iotaR (rows x 3) (maskR (rows x 3)) = maxR (rows x 5) := rfl

/-- The first places of the largest scores of round 5. -/
theorem at20 (x : Vec Ideal S2x4x2048 .f32) : k1_pay20 (F := Ideal) iotaR (rows x 3) (maskR (rows x 3)) = argR (rows x 5) := rfl

/-- The scores after 6 rounds. -/
theorem at21 (x : Vec Ideal S2x4x2048 .f32) : k1_pay21 (F := Ideal) iotaR (rows x 3) (maskR (rows x 3)) = rows x 6 := rfl

/-- The largest scores of round 6. -/
theorem at22 (x : Vec Ideal S2x4x2048 .f32) : k1_pay22 (F := Ideal) iotaR (rows x 3) (maskR (rows x 3)) = maxR (rows x 6) := rfl

/-- The first places of the largest scores of round 6. -/
theorem at23 (x : Vec Ideal S2x4x2048 .f32) : k1_pay23 (F := Ideal) iotaR (rows x 3) (maskR (rows x 3)) = argR (rows x 6) := rfl

/-- The scores after 7 rounds. -/
theorem at24 (x : Vec Ideal S2x4x2048 .f32) : k1_pay24 (F := Ideal) iotaR (rows x 3) (maskR (rows x 3)) = rows x 7 := rfl

/-- The largest scores of round 7. -/
theorem at25 (x : Vec Ideal S2x4x2048 .f32) : k1_pay25 (F := Ideal) (rows x 7) = maxR (rows x 7) := rfl

/-- The first places of the largest scores of round 7. -/
theorem at26 (x : Vec Ideal S2x4x2048 .f32) : k1_pay26 (F := Ideal) iotaR (rows x 7) = argR (rows x 7) := rfl

/-- The scores after 8 rounds. -/
theorem at27 (x : Vec Ideal S2x4x2048 .f32) : k1_pay27 (F := Ideal) iotaR (rows x 7) = rows x 8 := rfl

/-- The largest scores of round 8. -/
theorem at28 (x : Vec Ideal S2x4x2048 .f32) : k1_pay28 (F := Ideal) iotaR (rows x 7) = maxR (rows x 8) := rfl

/-- The first places of the largest scores of round 8. -/
theorem at29 (x : Vec Ideal S2x4x2048 .f32) : k1_pay29 (F := Ideal) iotaR (rows x 7) = argR (rows x 8) := rfl

/-- The scores after 9 rounds. -/
theorem at30 (x : Vec Ideal S2x4x2048 .f32) : k1_pay30 (F := Ideal) iotaR (rows x 7) = rows x 9 := rfl

/-- The largest scores of round 9. -/
theorem at31 (x : Vec Ideal S2x4x2048 .f32) : k1_pay31 (F := Ideal) iotaR (rows x 7) = maxR (rows x 9) := rfl

/-- The first places of the largest scores of round 9. -/
theorem at32 (x : Vec Ideal S2x4x2048 .f32) : k1_pay32 (F := Ideal) iotaR (rows x 7) = argR (rows x 9) := rfl

/-- The scores after 10 rounds. -/
theorem at33 (x : Vec Ideal S2x4x2048 .f32) : k1_pay33 (F := Ideal) iotaR (rows x 7) = rows x 10 := rfl

/-- The largest scores of round 10. -/
theorem at34 (x : Vec Ideal S2x4x2048 .f32) : k1_pay34 (F := Ideal) iotaR (rows x 7) = maxR (rows x 10) := rfl

/-- The first places of the largest scores of round 10. -/
theorem at35 (x : Vec Ideal S2x4x2048 .f32) : k1_pay35 (F := Ideal) iotaR (rows x 7) = argR (rows x 10) := rfl

/-- The one place round 10 takes in each row. -/
theorem at36 (x : Vec Ideal S2x4x2048 .f32) : k1_pay36 (F := Ideal) iotaR (rows x 7) = hitR (rows x 10) := rfl

/-- The scores after 11 rounds. -/
theorem at37 (x : Vec Ideal S2x4x2048 .f32) : k1_pay37 (F := Ideal) (rows x 10) (hitR (rows x 10)) = rows x 11 := rfl

/-- The largest scores of round 11. -/
theorem at38 (x : Vec Ideal S2x4x2048 .f32) : k1_pay38 (F := Ideal) (rows x 10) (hitR (rows x 10)) = maxR (rows x 11) := rfl

/-- The first places of the largest scores of round 11. -/
theorem at39 (x : Vec Ideal S2x4x2048 .f32) : k1_pay39 (F := Ideal) iotaR (rows x 10) (hitR (rows x 10)) = argR (rows x 11) := rfl

/-- The scores after 12 rounds. -/
theorem at40 (x : Vec Ideal S2x4x2048 .f32) : k1_pay40 (F := Ideal) iotaR (rows x 10) (hitR (rows x 10)) = rows x 12 := rfl

/-- The largest scores of round 12. -/
theorem at41 (x : Vec Ideal S2x4x2048 .f32) : k1_pay41 (F := Ideal) iotaR (rows x 10) (hitR (rows x 10)) = maxR (rows x 12) := rfl

/-- The first places of the largest scores of round 12. -/
theorem at42 (x : Vec Ideal S2x4x2048 .f32) : k1_pay42 (F := Ideal) iotaR (rows x 10) (hitR (rows x 10)) = argR (rows x 12) := rfl

/-- The scores after 13 rounds. -/
theorem at43 (x : Vec Ideal S2x4x2048 .f32) : k1_pay43 (F := Ideal) iotaR (rows x 10) (hitR (rows x 10)) = rows x 13 := rfl

/-- The largest scores of round 13. -/
theorem at44 (x : Vec Ideal S2x4x2048 .f32) : k1_pay44 (F := Ideal) iotaR (rows x 10) (hitR (rows x 10)) = maxR (rows x 13) := rfl

/-- The first places of the largest scores of round 13. -/
theorem at45 (x : Vec Ideal S2x4x2048 .f32) : k1_pay45 (F := Ideal) iotaR (rows x 10) (hitR (rows x 10)) = argR (rows x 13) := rfl

/-- The scores after 14 rounds. -/
theorem at46 (x : Vec Ideal S2x4x2048 .f32) : k1_pay46 (F := Ideal) iotaR (rows x 10) (hitR (rows x 10)) = rows x 14 := rfl

/-- The largest scores of round 14. -/
theorem at47 (x : Vec Ideal S2x4x2048 .f32) : k1_pay47 (F := Ideal) iotaR (rows x 10) (hitR (rows x 10)) = maxR (rows x 14) := rfl

/-- The places that tie for the largest score of round 14. -/
theorem at48 (x : Vec Ideal S2x4x2048 .f32) : k1_pay48 (F := Ideal) iotaR (rows x 10) (hitR (rows x 10)) = candR (rows x 14) := rfl

/-- The first places of the largest scores of round 14. -/
theorem at49 (x : Vec Ideal S2x4x2048 .f32) : k1_pay49 (candR (rows x 14)) = argR (rows x 14) := rfl

/-- The scores after 15 rounds. -/
theorem at50 (x : Vec Ideal S2x4x2048 .f32) : k1_pay50 (F := Ideal) iotaR (rows x 14) (candR (rows x 14)) = rows x 15 := rfl

/-- The largest scores of round 15. -/
theorem at51 (x : Vec Ideal S2x4x2048 .f32) : k1_pay51 (F := Ideal) iotaR (rows x 14) (candR (rows x 14)) = maxR (rows x 15) := rfl

/-- The sixteen places of every row, side by side. -/
theorem at52 (x : Vec Ideal S2x4x2048 .f32) : k1_pay52 (F := Ideal) iotaR (argR (rows x 0)) (argR (rows x 1)) (argR (rows x 2)) (argR (rows x 3)) (argR (rows x 4)) (argR (rows x 5)) (argR (rows x 6)) (argR (rows x 7)) (argR (rows x 8)) (argR (rows x 9)) (argR (rows x 10)) (argR (rows x 11)) (argR (rows x 12)) (argR (rows x 13)) (rows x 14) (candR (rows x 14)) = topIdx x := rfl

/-- The gates: the hyperbolic tangents of the sixteen largest scores of every row. -/
theorem at53 (x : Vec Ideal S2x4x2048 .f32) : k1_pay53 (F := Ideal) iotaR (maxR (rows x 0)) (maxR (rows x 1)) (maxR (rows x 2)) (maxR (rows x 3)) (maxR (rows x 4)) (maxR (rows x 5)) (maxR (rows x 6)) (maxR (rows x 7)) (maxR (rows x 8)) (maxR (rows x 9)) (maxR (rows x 10)) (maxR (rows x 11)) (maxR (rows x 12)) (maxR (rows x 13)) (rows x 14) (maxR (rows x 14)) (candR (rows x 14)) = gates x := rfl

/-- The numbering of the columns of the scores. -/
theorem atR : iota .tc S8x2048 32 [1] iota_S8x2048_d1_w32 = iotaR := rfl

/-- The numbering of the points down a column. -/
theorem atC : iota .tc S2048x16 32 [0] iota_S2048x16_d0_w32 = iotaC := rfl

/-- One of the three projections, on the points of one batch. -/
theorem at58 (v196 : Vec Ideal S64x128 .f32) (v202 : Vec Ideal S1x128x2048 .f32) : k1_pay58 (F := Ideal) v196 v202 = projA v196 v202 := rfl

/-- One of the three projections, on the points of one batch. -/
theorem at59 (v198 : Vec Ideal S64x128 .f32) (v202 : Vec Ideal S1x128x2048 .f32) : k1_pay59 (F := Ideal) v198 v202 = projA v198 v202 := rfl

/-- One of the three projections, on the points of one batch. -/
theorem at60 (v200 : Vec Ideal S64x128 .f32) (v202 : Vec Ideal S1x128x2048 .f32) : k1_pay60 (F := Ideal) v200 v202 = projA v200 v202 := rfl

/-- The one-hot columns of head 0 of batch 0. -/
theorem at61 (v3 : IVec S8x2048 32) (v11 : IVec S8x1 32) (v23 : IVec S8x1 32) (v35 : IVec S8x1 32) (v47 : IVec S8x1 32) (v59 : IVec S8x1 32) (v71 : IVec S8x1 32) (v83 : IVec S8x1 32) (v95 : IVec S8x1 32) (v107 : IVec S8x1 32) (v119 : IVec S8x1 32) (v131 : IVec S8x1 32) (v143 : IVec S8x1 32) (v155 : IVec S8x1 32) (v167 : IVec S8x1 32) (v171 : FVec Ideal S8x2048 .f32) (v177 : IVec S8x2048 32) : k1_pay61 (F := Ideal) v3 v11 v23 v35 v47 v59 v71 v83 v95 v107 v119 v131 v143 v155 v167 v171 v177 = (hot 0 slices_S8x16_o0_0_S1x16 (k1_pay52 v3 v11 v23 v35 v47 v59 v71 v83 v95 v107 v119 v131 v143 v155 v167 v171 v177)) := rfl

/-- The memory columns of head 0 of batch 0, before any gate. -/
theorem at62 (v3 : IVec S8x2048 32) (v11 : IVec S8x1 32) (v23 : IVec S8x1 32) (v35 : IVec S8x1 32) (v47 : IVec S8x1 32) (v59 : IVec S8x1 32) (v71 : IVec S8x1 32) (v83 : IVec S8x1 32) (v95 : IVec S8x1 32) (v107 : IVec S8x1 32) (v119 : IVec S8x1 32) (v131 : IVec S8x1 32) (v143 : IVec S8x1 32) (v155 : IVec S8x1 32) (v167 : IVec S8x1 32) (v171 : FVec Ideal S8x2048 .f32) (v177 : IVec S8x2048 32) (v198 : Vec Ideal S64x128 .f32) (v202 : Vec Ideal S1x128x2048 .f32) : k1_pay62 (F := Ideal) v3 v11 v23 v35 v47 v59 v71 v83 v95 v107 v119 v131 v143 v155 v167 v171 v177 v198 v202 = (pick (band 0 slices_S64x2048_o0_0_S16x2048 (projA v198 v202)) (hot 0 slices_S8x16_o0_0_S1x16 (k1_pay52 v3 v11 v23 v35 v47 v59 v71 v83 v95 v107 v119 v131 v143 v155 v167 v171 v177))) := rfl

/-- The memory columns of head 0 of batch 0, before any gate. -/
theorem at63 (v3 : IVec S8x2048 32) (v11 : IVec S8x1 32) (v23 : IVec S8x1 32) (v35 : IVec S8x1 32) (v47 : IVec S8x1 32) (v59 : IVec S8x1 32) (v71 : IVec S8x1 32) (v83 : IVec S8x1 32) (v95 : IVec S8x1 32) (v107 : IVec S8x1 32) (v119 : IVec S8x1 32) (v131 : IVec S8x1 32) (v143 : IVec S8x1 32) (v155 : IVec S8x1 32) (v167 : IVec S8x1 32) (v171 : FVec Ideal S8x2048 .f32) (v177 : IVec S8x2048 32) (v200 : Vec Ideal S64x128 .f32) (v202 : Vec Ideal S1x128x2048 .f32) : k1_pay63 (F := Ideal) v3 v11 v23 v35 v47 v59 v71 v83 v95 v107 v119 v131 v143 v155 v167 v171 v177 v200 v202 = (pick (band 0 slices_S64x2048_o0_0_S16x2048 (projA v200 v202)) (hot 0 slices_S8x16_o0_0_S1x16 (k1_pay52 v3 v11 v23 v35 v47 v59 v71 v83 v95 v107 v119 v131 v143 v155 v167 v171 v177))) := rfl

/-- A block of memory columns as it is written. -/
theorem at66 (v216 : FVec Ideal S16x16 .f32) : k1_pay66 (F := Ideal) v216 = pack v216 := rfl

/-- The one-hot columns of head 1 of batch 0. -/
theorem at69 (v193 : IVec S8x16 32) : k1_pay69 (F := Ideal) v193 iotaC = (hot 1 slices_S8x16_o1_0_S1x16 v193) := rfl

/-- The memory columns of head 1 of batch 0, before any gate. -/
theorem at70 (v193 : IVec S8x16 32) (v206 : FVec Ideal S64x2048 .f32) : k1_pay70 (F := Ideal) v193 iotaC v206 = (pick (band 16 slices_S64x2048_o16_0_S16x2048 v206) (hot 1 slices_S8x16_o1_0_S1x16 v193)) := rfl

/-- The gated value columns of head 1 of batch 0. -/
theorem at71 (v193 : IVec S8x16 32) (v194 : FVec Ideal S8x16 .f32) (v207 : FVec Ideal S64x2048 .f32) : k1_pay71 (F := Ideal) v193 v194 iotaC v207 = mulf (pick (band 16 slices_S64x2048_o16_0_S16x2048 v207) (hot 1 slices_S8x16_o1_0_S1x16 v193)) (gate 1 slices_S8x16_o1_0_S1x16 v194) := rfl

/-- A block of memory columns as it is written. -/
theorem at72 (v254 : FVec Ideal S16x16 .f32) : k1_pay72 (F := Ideal) v254 = pack v254 := rfl

/-- A block of memory columns as it is written. -/
theorem at73 (v261 : FVec Ideal S16x16 .f32) : k1_pay73 (F := Ideal) v261 = pack v261 := rfl

/-- The attention of head 1 of one batch. -/
theorem at74 (v205 : FVec Ideal S64x2048 .f32) (v254 : FVec Ideal S16x16 .f32) (v261 : FVec Ideal S16x16 .f32) : k1_pay74 (F := Ideal) v205 v254 v261 = headA (band 16 slices_S64x2048_o16_0_S16x2048 v205) v254 v261 := rfl

/-- The one-hot columns of head 2 of batch 0. -/
theorem at75 (v193 : IVec S8x16 32) : k1_pay75 (F := Ideal) v193 iotaC = (hot 2 slices_S8x16_o2_0_S1x16 v193) := rfl

/-- The memory columns of head 2 of batch 0, before any gate. -/
theorem at76 (v193 : IVec S8x16 32) (v206 : FVec Ideal S64x2048 .f32) : k1_pay76 (F := Ideal) v193 iotaC v206 = (pick (band 32 slices_S64x2048_o32_0_S16x2048 v206) (hot 2 slices_S8x16_o2_0_S1x16 v193)) := rfl

/-- The gated value columns of head 2 of batch 0. -/
theorem at77 (v193 : IVec S8x16 32) (v194 : FVec Ideal S8x16 .f32) (v207 : FVec Ideal S64x2048 .f32) : k1_pay77 (F := Ideal) v193 v194 iotaC v207 = mulf (pick (band 32 slices_S64x2048_o32_0_S16x2048 v207) (hot 2 slices_S8x16_o2_0_S1x16 v193)) (gate 2 slices_S8x16_o2_0_S1x16 v194) := rfl

/-- The block written for head 2 of batch 0. -/
theorem at78 (v193 : IVec S8x16 32) (v206 : FVec Ideal S64x2048 .f32) : k1_pay78 (F := Ideal) v193 iotaC v206 = pack (pick (band 32 slices_S64x2048_o32_0_S16x2048 v206) (hot 2 slices_S8x16_o2_0_S1x16 v193)) := rfl

/-- A block of memory columns as it is written. -/
theorem at79 (v299 : FVec Ideal S16x16 .f32) : k1_pay79 (F := Ideal) v299 = pack v299 := rfl

/-- The attention of head 2 of one batch. -/
theorem at80 (v205 : FVec Ideal S64x2048 .f32) (v292 : FVec Ideal S16x16 .f32) (v299 : FVec Ideal S16x16 .f32) : k1_pay80 (F := Ideal) v205 v292 v299 = headA (band 32 slices_S64x2048_o32_0_S16x2048 v205) v292 v299 := rfl

/-- The one-hot columns of head 3 of batch 0. -/
theorem at81 (v193 : IVec S8x16 32) : k1_pay81 (F := Ideal) v193 iotaC = (hot 3 slices_S8x16_o3_0_S1x16 v193) := rfl

/-- The memory columns of head 3 of batch 0, before any gate. -/
theorem at82 (v193 : IVec S8x16 32) (v206 : FVec Ideal S64x2048 .f32) : k1_pay82 (F := Ideal) v193 iotaC v206 = (pick (band 48 slices_S64x2048_o48_0_S16x2048 v206) (hot 3 slices_S8x16_o3_0_S1x16 v193)) := rfl

/-- The gated value columns of head 3 of batch 0. -/
theorem at83 (v193 : IVec S8x16 32) (v194 : FVec Ideal S8x16 .f32) (v207 : FVec Ideal S64x2048 .f32) : k1_pay83 (F := Ideal) v193 v194 iotaC v207 = mulf (pick (band 48 slices_S64x2048_o48_0_S16x2048 v207) (hot 3 slices_S8x16_o3_0_S1x16 v193)) (gate 3 slices_S8x16_o3_0_S1x16 v194) := rfl

/-- The block written for head 3 of batch 0. -/
theorem at84 (v193 : IVec S8x16 32) (v206 : FVec Ideal S64x2048 .f32) : k1_pay84 (F := Ideal) v193 iotaC v206 = pack (pick (band 48 slices_S64x2048_o48_0_S16x2048 v206) (hot 3 slices_S8x16_o3_0_S1x16 v193)) := rfl

/-- A block of memory columns as it is written. -/
theorem at85 (v337 : FVec Ideal S16x16 .f32) : k1_pay85 (F := Ideal) v337 = pack v337 := rfl

/-- The four heads of one batch, mixed. -/
theorem at86 (v205 : FVec Ideal S64x2048 .f32) (v245 : FVec Ideal S16x2048 .f32) (v283 : FVec Ideal S16x2048 .f32) (v321 : FVec Ideal S16x2048 .f32) (v330 : FVec Ideal S16x16 .f32) (v337 : FVec Ideal S16x16 .f32) (v361 : Vec Ideal S64x64 .f32) : k1_pay86 (F := Ideal) v205 v245 v283 v321 v330 v337 v361 = mixA v245 v283 v321 (headA (band 48 slices_S64x2048_o48_0_S16x2048 v205) v330 v337) v361 := rfl

/-- The one-hot columns of head 0 of batch 1. -/
theorem at91 (v193 : IVec S8x16 32) : k1_pay91 (F := Ideal) v193 iotaC = (hot 4 slices_S8x16_o4_0_S1x16 v193) := rfl

/-- The gated value columns of head 0 of batch 1. -/
theorem at94 (v194 : FVec Ideal S8x16 .f32) (v380 : FVec Ideal S2048x16 .f32) (v383 : FVec Ideal S16x2048 .f32) : k1_pay94 (F := Ideal) v194 v380 v383 = mulf (pick v383 v380) (gate 4 slices_S8x16_o4_0_S1x16 v194) := rfl

/-- A block of memory columns as it is written. -/
theorem at95 (v382 : FVec Ideal S16x16 .f32) : k1_pay95 (F := Ideal) v382 = pack v382 := rfl

/-- The block written for head 0 of batch 1. -/
theorem at96 (v194 : FVec Ideal S8x16 .f32) (v380 : FVec Ideal S2048x16 .f32) (v383 : FVec Ideal S16x2048 .f32) : k1_pay96 (F := Ideal) v194 v380 v383 = pack (mulf (pick v383 v380) (gate 4 slices_S8x16_o4_0_S1x16 v194)) := rfl

/-- The attention of head 0 of one batch. -/
theorem at97 (v194 : FVec Ideal S8x16 .f32) (v371 : FVec Ideal S64x2048 .f32) (v380 : FVec Ideal S2048x16 .f32) (v382 : FVec Ideal S16x16 .f32) (v383 : FVec Ideal S16x2048 .f32) : k1_pay97 (F := Ideal) v194 v371 v380 v382 v383 = headA (band 0 slices_S64x2048_o0_0_S16x2048 v371) v382 (mulf (pick v383 v380) (gate 4 slices_S8x16_o4_0_S1x16 v194)) := rfl

/-- The one-hot columns of head 1 of batch 1. -/
theorem at98 (v193 : IVec S8x16 32) : k1_pay98 (F := Ideal) v193 iotaC = (hot 5 slices_S8x16_o5_0_S1x16 v193) := rfl

/-- The memory columns of head 1 of batch 1, before any gate. -/
theorem at99 (v193 : IVec S8x16 32) (v372 : FVec Ideal S64x2048 .f32) : k1_pay99 (F := Ideal) v193 iotaC v372 = (pick (band 16 slices_S64x2048_o16_0_S16x2048 v372) (hot 5 slices_S8x16_o5_0_S1x16 v193)) := rfl

/-- The memory columns of head 1 of batch 1, before any gate. -/
theorem at100 (v193 : IVec S8x16 32) (v373 : FVec Ideal S64x2048 .f32) : k1_pay100 (F := Ideal) v193 iotaC v373 = (pick (band 16 slices_S64x2048_o16_0_S16x2048 v373) (hot 5 slices_S8x16_o5_0_S1x16 v193)) := rfl

/-- The gates of head 1 of batch 1, spread over the channels. -/
theorem at101 (v194 : FVec Ideal S8x16 .f32) : k1_pay101 (F := Ideal) v194 = (gate 5 slices_S8x16_o5_0_S1x16 v194) := rfl

/-- Head 1 of batch 1: the value columns times their gates. -/
theorem at102 (v422 : FVec Ideal S16x16 .f32) (v426 : FVec Ideal S16x16 .f32) : k1_pay102 (F := Ideal) v422 v426 = mulf v422 v426 := rfl

/-- A block of memory columns as it is written. -/
theorem at103 (v420 : FVec Ideal S16x16 .f32) : k1_pay103 (F := Ideal) v420 = pack v420 := rfl

/-- The gated block written for head 1 of batch 1. -/
theorem at104 (v422 : FVec Ideal S16x16 .f32) (v426 : FVec Ideal S16x16 .f32) : k1_pay104 (F := Ideal) v422 v426 = pack (mulf v422 v426) := rfl

/-- The attention of head 1 of one batch. -/
theorem at105 (v371 : FVec Ideal S64x2048 .f32) (v420 : FVec Ideal S16x16 .f32) (v422 : FVec Ideal S16x16 .f32) (v426 : FVec Ideal S16x16 .f32) : k1_pay105 (F := Ideal) v371 v420 v422 v426 = headA (band 16 slices_S64x2048_o16_0_S16x2048 v371) v420 (mulf v422 v426) := rfl

/-- The one-hot columns of head 2 of batch 1. -/
theorem at106 (v193 : IVec S8x16 32) : k1_pay106 (F := Ideal) v193 iotaC = (hot 6 slices_S8x16_o6_0_S1x16 v193) := rfl

/-- The memory columns of head 2 of batch 1, before any gate. -/
theorem at107 (v193 : IVec S8x16 32) (v372 : FVec Ideal S64x2048 .f32) : k1_pay107 (F := Ideal) v193 iotaC v372 = (pick (band 32 slices_S64x2048_o32_0_S16x2048 v372) (hot 6 slices_S8x16_o6_0_S1x16 v193)) := rfl

/-- The gated value columns of head 2 of batch 1. -/
theorem at108 (v193 : IVec S8x16 32) (v194 : FVec Ideal S8x16 .f32) (v373 : FVec Ideal S64x2048 .f32) : k1_pay108 (F := Ideal) v193 v194 iotaC v373 = mulf (pick (band 32 slices_S64x2048_o32_0_S16x2048 v373) (hot 6 slices_S8x16_o6_0_S1x16 v193)) (gate 6 slices_S8x16_o6_0_S1x16 v194) := rfl

/-- A block of memory columns as it is written. -/
theorem at109 (v458 : FVec Ideal S16x16 .f32) : k1_pay109 (F := Ideal) v458 = pack v458 := rfl

/-- A block of memory columns as it is written. -/
theorem at110 (v465 : FVec Ideal S16x16 .f32) : k1_pay110 (F := Ideal) v465 = pack v465 := rfl

/-- The attention of head 2 of one batch. -/
theorem at111 (v371 : FVec Ideal S64x2048 .f32) (v458 : FVec Ideal S16x16 .f32) (v465 : FVec Ideal S16x16 .f32) : k1_pay111 (F := Ideal) v371 v458 v465 = headA (band 32 slices_S64x2048_o32_0_S16x2048 v371) v458 v465 := rfl

/-- The one-hot columns of head 3 of batch 1. -/
theorem at112 (v193 : IVec S8x16 32) : k1_pay112 (F := Ideal) v193 iotaC = (hot 7 slices_S8x16_o7_0_S1x16 v193) := rfl

/-- The memory columns of head 3 of batch 1, before any gate. -/
theorem at113 (v193 : IVec S8x16 32) (v372 : FVec Ideal S64x2048 .f32) : k1_pay113 (F := Ideal) v193 iotaC v372 = (pick (band 48 slices_S64x2048_o48_0_S16x2048 v372) (hot 7 slices_S8x16_o7_0_S1x16 v193)) := rfl

/-- The gated value columns of head 3 of batch 1. -/
theorem at114 (v193 : IVec S8x16 32) (v194 : FVec Ideal S8x16 .f32) (v373 : FVec Ideal S64x2048 .f32) : k1_pay114 (F := Ideal) v193 v194 iotaC v373 = mulf (pick (band 48 slices_S64x2048_o48_0_S16x2048 v373) (hot 7 slices_S8x16_o7_0_S1x16 v193)) (gate 7 slices_S8x16_o7_0_S1x16 v194) := rfl

/-- The block written for head 3 of batch 1. -/
theorem at115 (v193 : IVec S8x16 32) (v372 : FVec Ideal S64x2048 .f32) : k1_pay115 (F := Ideal) v193 iotaC v372 = pack (pick (band 48 slices_S64x2048_o48_0_S16x2048 v372) (hot 7 slices_S8x16_o7_0_S1x16 v193)) := rfl

/-- A block of memory columns as it is written. -/
theorem at116 (v503 : FVec Ideal S16x16 .f32) : k1_pay116 (F := Ideal) v503 = pack v503 := rfl

/-- The four heads of one batch, mixed. -/
theorem at117 (v371 : FVec Ideal S64x2048 .f32) (v411 : FVec Ideal S16x2048 .f32) (v449 : FVec Ideal S16x2048 .f32) (v487 : FVec Ideal S16x2048 .f32) (v496 : FVec Ideal S16x16 .f32) (v503 : FVec Ideal S16x16 .f32) (v527 : Vec Ideal S64x64 .f32) : k1_pay117 (F := Ideal) v371 v411 v449 v487 v496 v503 v527 = mixA v411 v449 v487 (headA (band 48 slices_S64x2048_o48_0_S16x2048 v371) v496 v503) v527 := rfl

/-- The first row of the gates. -/
theorem at64 (v3 : IVec S8x2048 32) (v5 : FVec Ideal S8x1 .f32) (v17 : FVec Ideal S8x1 .f32) (v29 : FVec Ideal S8x1 .f32) (v41 : FVec Ideal S8x1 .f32) (v53 : FVec Ideal S8x1 .f32) (v65 : FVec Ideal S8x1 .f32) (v77 : FVec Ideal S8x1 .f32) (v89 : FVec Ideal S8x1 .f32) (v101 : FVec Ideal S8x1 .f32) (v113 : FVec Ideal S8x1 .f32) (v125 : FVec Ideal S8x1 .f32) (v137 : FVec Ideal S8x1 .f32) (v149 : FVec Ideal S8x1 .f32) (v161 : FVec Ideal S8x1 .f32) (v171 : FVec Ideal S8x2048 .f32) (v173 : FVec Ideal S8x1 .f32) (v177 : IVec S8x2048 32) : k1_pay64 (F := Ideal) v3 v5 v17 v29 v41 v53 v65 v77 v89 v101 v113 v125 v137 v149 v161 v171 v173 v177 = (extractStridedSlice S1x16 ![0, 0] (k1_pay53 v3 v5 v17 v29 v41 v53 v65 v77 v89 v101 v113 v125 v137 v149 v161 v171 v173 v177) slices_S8x16_o0_0_S1x16) := rfl

/-- The gated value columns of head 0 of batch 0. -/
theorem at65 (v218 : FVec Ideal S16x16 .f32) (G : FVec Ideal S8x16 .f32) : k1_pay65 (F := Ideal) v218 (extractStridedSlice S1x16 ![0, 0] G slices_S8x16_o0_0_S1x16) = mulf v218 (gate 0 slices_S8x16_o0_0_S1x16 G) := rfl

/-- The block written for head 0 of batch 0. -/
theorem at67 (v218 : FVec Ideal S16x16 .f32) (G : FVec Ideal S8x16 .f32) : k1_pay67 (F := Ideal) v218 (extractStridedSlice S1x16 ![0, 0] G slices_S8x16_o0_0_S1x16) = pack (mulf v218 (gate 0 slices_S8x16_o0_0_S1x16 G)) := rfl

/-- The attention of head 0 of one batch. -/
theorem at68 (v205 : FVec Ideal S64x2048 .f32) (v216 v218 : FVec Ideal S16x16 .f32) (G : FVec Ideal S8x16 .f32) : k1_pay68 (F := Ideal) v205 v216 v218 (extractStridedSlice S1x16 ![0, 0] G slices_S8x16_o0_0_S1x16) = headA (band 0 slices_S64x2048_o0_0_S16x2048 v205) v216 (mulf v218 (gate 0 slices_S8x16_o0_0_S1x16 G)) := rfl

/-- One of the three projections, on the points of one batch. -/
theorem at88 (w : Vec Ideal S64x128 .f32) (v368 : Vec Ideal S1x128x2048 .f32) : k1_pay88 (F := Ideal) (k1_pay54 w) v368 = projA w v368 := rfl

/-- One of the three projections, on the points of one batch. -/
theorem at89 (w : Vec Ideal S64x128 .f32) (v368 : Vec Ideal S1x128x2048 .f32) : k1_pay89 (F := Ideal) (k1_pay55 w) v368 = projA w v368 := rfl

/-- One of the three projections, on the points of one batch. -/
theorem at90 (w : Vec Ideal S64x128 .f32) (v368 : Vec Ideal S1x128x2048 .f32) : k1_pay90 (F := Ideal) (k1_pay56 w) v368 = projA w v368 := rfl

/-- The memory columns of head 0 of batch 1, before any gate. -/
theorem at92 (v193 : IVec S8x16 32) (w : Vec Ideal S64x128 .f32) (v368 : Vec Ideal S1x128x2048 .f32) : k1_pay92 (F := Ideal) v193 iotaC (k1_pay55 w) v368 = (pick (band 0 slices_S64x2048_o0_0_S16x2048 (projA w v368)) (hot 4 slices_S8x16_o4_0_S1x16 v193)) := rfl

/-- The first sixteen channels of a projection. -/
theorem at93 (w : Vec Ideal S64x128 .f32) (v368 : Vec Ideal S1x128x2048 .f32) : k1_pay93 (F := Ideal) (k1_pay56 w) v368 = (band 0 slices_S64x2048_o0_0_S16x2048 (projA w v368)) := rfl

end Cert.KernelIdeal.Select

end
-- ==== Proof.Memory.lean ====
/- The mathematics of the memory attention, on plain functions. -/
module

public import proofs.«01_k».proof.Proof.Spec
public import proofs.«01_k».proof.Proof.Rank

@[expose] public section

set_option maxRecDepth 16384

noncomputable section

namespace Cert.Math

open Idealize.ShloMosaic Idealize.ShloMosaic.TcCoe Idealize.SL.Sem

/-- A rank among the first sixteen. -/
abbrev up (k : Fin 16) : Fin 2048 := ⟨k.val, by omega⟩

/-- The point a row of scores ranks `k`-th. -/
def best (s : Fin 2048 → EReal) (k : Fin 16) : Fin 2048 := rank s (up k)

/-- The head a channel of the 64 belongs to. -/
abbrev headOf64 (r : Fin 64) : Fin 4 := ⟨r.val / 16, by omega⟩

/-- The channel `16 g + c` of the 64. -/
abbrev chan64 (g : Fin 4) (c : Fin 16) : Fin 64 := ⟨g.val * 16 + c.val, by omega⟩

/-- The memory key of channel `r` at the point its head ranks `k`-th. -/
def keyM (W : (⟨2, ![64, 128]⟩ : Shape).Idx → EReal) (X : Fin 128 → Fin 2048 → EReal) (S : Fin 4 → Fin 2048 → EReal) (r : Fin 64) (k : Fin 16) : EReal :=
  row W r fun i => X i (best (S (headOf64 r)) k)

/-- The memory value of channel `r` at that point, gated by the tanh of its score. -/
def valM (W : (⟨2, ![64, 128]⟩ : Shape).Idx → EReal) (X : Fin 128 → Fin 2048 → EReal) (S : Fin 4 → Fin 2048 → EReal) (r : Fin 64) (k : Fin 16) : EReal :=
  keyM W X S r k * Ideal.tanh (S (headOf64 r) (best (S (headOf64 r)) k))

/-- What point `n` attends to in channel `r` of the memory. -/
def memOut (Wq Wk Wv : (⟨2, ![64, 128]⟩ : Shape).Idx → EReal) (X : Fin 128 → Fin 2048 → EReal) (S : Fin 4 → Fin 2048 → EReal) (r : Fin 64) (n : Fin 2048) : EReal :=
  ∑ k, valM Wv X S r k * soft (fun k => ∑ c : Fin 16, keyM Wk X S (chan64 (headOf64 r) c) k * row Wq (chan64 (headOf64 r) c) fun i => X i n) k

/-- The mean of one channel over both batches. -/
def avg (M : Fin 2 → Fin 2048 → EReal) : EReal := Ideal.div (∑ b, ∑ n, M b n) (Ideal.ofBits .f32 0x45800000#32)

/-- The variance of one channel over both batches. -/
def var (M : Fin 2 → Fin 2048 → EReal) : EReal := avg fun b n => (M b n - avg M) * (M b n - avg M)

/-- One channel normalised, scaled and shifted. -/
def bnorm (M : Fin 2 → Fin 2048 → EReal) (ga be : EReal) (b : Fin 2) (n : Fin 2048) : EReal :=
  (M b n - avg M) * Ideal.rsqrt (var M + Ideal.ofBits .f32 0x3727C5AC#32) * ga + be

end Cert.Math

end
-- ==== Proof.Heads.lean ====
/- The second call's stages, read element by element. -/
module

public import proofs.«01_k».proof.Proof.Canon
public import proofs.«01_k».proof.Proof.Stage1
public import proofs.«01_k».proof.Proof.Memory

@[expose] public section

set_option maxRecDepth 16384

noncomputable section

namespace Cert.KernelIdeal.Select

open Idealize.ShloMosaic Idealize.ShloMosaic.TcCoe Idealize.SL.Sem
open Cert.KernelIdeal Cert.KernelIdeal.Gen Cert.KernelIdeal.Stage1 Cert.Math

/-- The selected positions are the first sixteen ranks. -/
theorem topIdx_at (x : Vec Ideal S2x4x2048 .f32) (hx : ∀ q m, ⊥ < rowsOf x q m) (q : Fin 8) (k : Fin 16) :
    topIdx x (ix2 q k) = BitVec.ofNat 32 (best (rowsOf x q) k).val := by
  have e : topIdx x (ix2 q k) = argR (rows x k.val) (ix2 q (0 : Fin 1)) := by
    fin_cases k <;> pointwise [topIdx]
  exact e.trans (argR_at hx (up k) (rows_at x hx k.val (by omega)) q)

/-- The gates are the tanh of the sixteen greatest scores. -/
theorem gates_at (x : Vec Ideal S2x4x2048 .f32) (hx : ∀ q m, ⊥ < rowsOf x q m) (q : Fin 8) (k : Fin 16) :
    gates x (ix2 q k) = Ideal.tanh (rowsOf x q (best (rowsOf x q) k)) := by
  have e : gates x (ix2 q k) = Ideal.tanh (maxR (rows x k.val) (ix2 q (0 : Fin 1))) := by
    fin_cases k <;> pointwise [gates]
  exact e.trans (congrArg Ideal.tanh (maxR_at (up k) (rows_at x hx k.val (by omega)) q))

/-- A projection, element by element. -/
theorem projA_at (w : Vec Ideal S64x128 .f32) (x : Vec Ideal S1x128x2048 .f32) (r : Fin 64) (n : Fin 2048) :
    projA w x (ix2 r n) = row w r fun i => x (ix3 (0 : Fin 1) i n) := by
  pointwise [projA, k1_pay58, k1_pay54, k1_pay57, row]

/-- A one-hot matrix picks the column its index names. -/
theorem pick_at (o : ℕ) (ho : S64x2048.Slices ![o, 0] S16x2048) (hb : o + 16 ≤ 64) (A : FVec Ideal S64x2048 .f32) (r : Fin 8) (hr : S8x16.Slices ![r.val, 0] S1x16)
    (T : IVec S8x16 32) (k : Fin 16) (m : Fin 2048) (hm : T (ix2 r k) = BitVec.ofNat 32 m.val) (c : Fin 16) :
    pick (band o ho A) (hot r.val hr T) (ix2 c k) = A (ix2 (⟨o + c.val, by omega⟩ : Fin 64) m) := by
  have e : pick (band o ho A) (hot r.val hr T) (ix2 c k)
      = ∑ n : Fin 2048, A (ix2 (⟨o + c.val, by omega⟩ : Fin 64) n) * FloatOps.sitofp (F := Ideal) .f32 (BitVec.setWidth 32 (IntOp.cmpi .eq (BitVec.ofNat 32 n.val) (T (ix2 r k)))) := by
    pointwise [pick, band, hot, iotaC]
  rw [e, Finset.sum_eq_single m]
  · rw [hm, hot_word, if_pos rfl, mul_one]
  · intro n _ hn
    rw [hm, hot_word, if_neg (fun e => hn (Fin.ext (by
      have := congrArg BitVec.toNat e
      simp only [BitVec.toNat_ofNat] at this
      have h1 := m.isLt
      have h2 := n.isLt
      omega))), mul_zero]
  · exact fun h => absurd (Finset.mem_univ m) h

/-- A gate does not depend on the channel. -/
theorem gate_at (r : Fin 8) (hr : S8x16.Slices ![r.val, 0] S1x16) (G : FVec Ideal S8x16 .f32) (c k : Fin 16) :
    gate r.val hr G (ix2 c k) = G (ix2 r k) := by
  pointwise [gate]

/-- One head's attention, entry by entry: a softmax-weighted sum of the value columns. -/
theorem headA_at (o : ℕ) (ho : S64x2048.Slices ![o, 0] S16x2048) (hb : o + 16 ≤ 64) (Q : FVec Ideal S64x2048 .f32) (K M : FVec Ideal S16x16 .f32) (c : Fin 16) (n : Fin 2048) :
    headA (band o ho Q) K M (ix2 c n)
      = ∑ k, M (ix2 c k) * soft (fun k => ∑ c' : Fin 16, K (ix2 c' k) * Q (ix2 (⟨o + c'.val, by omega⟩ : Fin 64) n)) k := by
  pointwise [headA, softA, expA, logitA, band, soft]
  rw [ninf_word]
  rfl

/-- The mixing, entry by entry: a row of the weights against the four heads stacked. -/
theorem mixA_at (a b c d : FVec Ideal S16x2048 .f32) (w : Vec Ideal S64x64 .f32) (P : Fin 64 → EReal) (n : Fin 2048) (o : Fin 64)
    (ha : ∀ k : Fin 16, a (ix2 k n) = P ⟨0 + k.val, by omega⟩) (hb : ∀ k : Fin 16, b (ix2 k n) = P ⟨16 + k.val, by omega⟩)
    (hc : ∀ k : Fin 16, c (ix2 k n) = P ⟨32 + k.val, by omega⟩) (hd : ∀ k : Fin 16, d (ix2 k n) = P ⟨48 + k.val, by omega⟩) :
    mixA a b c d w (ix3 (0 : Fin 1) o n) = row w o P := by
  pointwise [mixA, row]
  refine Finset.sum_congr rfl fun i _ => congrArg _ ?_
  have hi := i.isLt
  split
  · rw [ha]; exact congrArg P (Fin.ext (by simp only; omega))
  split
  · rw [hb]; exact congrArg P (Fin.ext (by simp only; omega))
  split
  · rw [hc]; exact congrArg P (Fin.ext (by simp only; omega))
  · rw [hd]; exact congrArg P (Fin.ext (by simp only; omega))

/-- The columns of a projection at the selected points. -/
theorem picked_at (x : Vec Ideal S2x4x2048 .f32) (hx : ∀ q m, ⊥ < rowsOf x q m) (w : Vec Ideal S64x128 .f32) (y : Vec Ideal S1x128x2048 .f32)
    (o : ℕ) (ho : S64x2048.Slices ![o, 0] S16x2048) (hb : o + 16 ≤ 64) (r : Fin 8) (hr : S8x16.Slices ![r.val, 0] S1x16) (c k : Fin 16) :
    pick (band o ho (projA w y)) (hot r.val hr (topIdx x)) (ix2 c k)
      = row w (⟨o + c.val, by omega⟩ : Fin 64) fun i => y (ix3 (0 : Fin 1) i (best (rowsOf x r) k)) := by
  rw [pick_at o ho hb _ r hr _ k _ (topIdx_at x hx r k) c, projA_at]

end Cert.KernelIdeal.Select

end
-- ==== Proof.Region1.lean ====
/- The second call's three result arrays, in closed form over the contents it is entered at. -/
module

public import proofs.«01_k».proof.Proof.Heads
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Region1

open Idealize.ShloMosaic Idealize.ShloMosaic.TcCoe Idealize.SL.Sem
open Idealize.ShloMosaic.Pipeline (Dat)
open Cert.KernelIdeal Cert.KernelIdeal.Gen Cert.KernelIdeal.Select Cert.Math

variable (V : (c : Dev nD) → (b : Ref sig .tc) → Buf (Elt Ideal) ((c : Thread nD τ).loc b))

/-- The points of batch `b`. -/
abbrev pts (A : Vec Ideal S2x128x2048 .f32) (b : Fin 2) : Fin 128 → Fin 2048 → EReal := fun i n => A (ix3 b i n)

/-- The scores of batch `b`. -/
abbrev scs (S : Vec Ideal S2x4x2048 .f32) (b : Fin 2) : Fin 4 → Fin 2048 → EReal := fun g m => S (ix3 b g m)

/-- The array of memory keys. -/
def keyArr (S : Vec Ideal S2x4x2048 .f32) (A : Vec Ideal S2x128x2048 .f32) (w : Vec Ideal S64x128 .f32) : Vec Ideal S2x4x16x16 .f32 :=
  fun i => keyM w (pts A (i 0)) (scs S (i 0)) (chan64 (i 1) (i 2)) (i 3)

/-- The array of memory values. -/
def valArr (S : Vec Ideal S2x4x2048 .f32) (A : Vec Ideal S2x128x2048 .f32) (w : Vec Ideal S64x128 .f32) : Vec Ideal S2x4x16x16 .f32 :=
  fun i => valM w (pts A (i 0)) (scs S (i 0)) (chan64 (i 1) (i 2)) (i 3)

/-- Each input window of the second call holds its whole array. -/
theorem idx : ∀ t : Fin cfg1.N, win1_0.index t = ![0, 0, 0] ∧ win1_1.index t = ![0, 0, 0] ∧ win1_2.index t = ![0, 0] ∧ win1_3.index t = ![0, 0]
    ∧ win1_4.index t = ![0, 0] ∧ win1_5.index t = ![0, 0] ∧ win1_6.index t = ![0, 0] ∧ win1_7.index t = ![0, 0] :=
  (by decide +kernel : ∀ t : Fin grid1.N, _)

/-- The second call sees the whole array of scores. -/
theorem read0 (c : Dev nD) : iblk1 V c 0 t1_0 = V c main_call0_v3_1 := by blk_ext! [iblk1, idx t1_0]
/-- The second call sees the whole array of points. -/
theorem read1 (c : Dev nD) : iblk1 V c 1 t1_0 = V c main_call0_v4 := by blk_ext! [iblk1, idx t1_0]
/-- The second call sees the whole array of query weights of the memory part. -/
theorem read2 (c : Dev nD) : iblk1 V c 2 t1_0 = V c main_arg8 := by blk_ext! [iblk1, idx t1_0]
/-- The second call sees the whole array of key weights of the memory part. -/
theorem read3 (c : Dev nD) : iblk1 V c 3 t1_0 = V c main_arg9 := by blk_ext! [iblk1, idx t1_0]
/-- The second call sees the whole array of value weights of the memory part. -/
theorem read4 (c : Dev nD) : iblk1 V c 4 t1_0 = V c main_arg10 := by blk_ext! [iblk1, idx t1_0]
/-- The second call sees the whole array of mixing weights. -/
theorem read5 (c : Dev nD) : iblk1 V c 5 t1_0 = V c main_arg11 := by blk_ext! [iblk1, idx t1_0]
/-- The second call sees the whole array of normalisation scales. -/
theorem read6 (c : Dev nD) : iblk1 V c 6 t1_0 = V c main_call0_v5 := by blk_ext! [iblk1, idx t1_0]
/-- The second call sees the whole array of normalisation shifts. -/
theorem read7 (c : Dev nD) : iblk1 V c 7 t1_0 = V c main_call0_v6 := by blk_ext! [iblk1, idx t1_0]

/-- Row `r` of the scores is row `r % 4` of batch `r / 4`. -/
theorem rowsOf_eq (S : Vec Ideal S2x4x2048 .f32) (r : ℕ) (h : r < 8) (b : Fin 2) (g : Fin 4) (hb : r / 4 = b.val) (hg : r % 4 = g.val) :
    rowsOf S ⟨r, h⟩ = scs S b g := by
  funext m
  show S (ix3 _ _ m) = S (ix3 b g m)
  congr 2 <;> exact Fin.ext (by assumption)

/-- A stored tile of keys is its part of the array. -/
theorem key_tile (S : Vec Ideal S2x4x2048 .f32) (hS : ∀ q m, ⊥ < rowsOf S q m) (A : Vec Ideal S2x128x2048 .f32) (w : Vec Ideal S64x128 .f32)
    (y : Vec Ideal S1x128x2048 .f32) (o r : ℕ) (ho : S64x2048.Slices ![o, 0] S16x2048) (hr : S8x16.Slices ![r, 0] S1x16) (hr8 : r < 8)
    (x : S1x1x16x16.Idx) (j : S2x4x16x16.Idx) (j0 : r / 4 = (j 0).val) (j1 : r % 4 = (j 1).val) (j2 : (j 2).val = (x 2).val) (j3 : (j 3).val = (x 3).val)
    (e : o = r % 4 * 16) (hy : ∀ i m, y (ix3 (0 : Fin 1) i m) = A (ix3 (j 0) i m)) :
    pack (pick (band o ho (projA w y)) (hot r hr (topIdx S))) x = keyArr S A w j := by
  obtain ⟨p, q, a, k, rfl⟩ : ∃ (p q : Fin 1) (a k : Fin 16), x = ix4 p q a k := ⟨x 0, x 1, x 2, x 3, by ext i; fin_cases i <;> rfl⟩
  obtain ⟨b, g, a', k', rfl⟩ : ∃ (b : Fin 2) (g : Fin 4) (a' k' : Fin 16), j = ix4 b g a' k' := ⟨j 0, j 1, j 2, j 3, by ext i; fin_cases i <;> rfl⟩
  obtain rfl : a' = a := Fin.ext j2
  obtain rfl : k' = k := Fin.ext j3
  have e1 : pack (pick (band o ho (projA w y)) (hot r hr (topIdx S))) (ix4 p q a' k') = pick (band o ho (projA w y)) (hot r hr (topIdx S)) (ix2 a' k') := by
    pointwise [pack]
  have hb : o + 16 ≤ 64 := by omega
  refine (e1.trans (picked_at S hS w y o ho hb ⟨r, hr8⟩ hr a' k')).trans ?_
  rw [rowsOf_eq S r hr8 b g j0 j1]
  have ec : (⟨o + a'.val, by omega⟩ : Fin 64) = chan64 g a' := Fin.ext (by show o + a'.val = g.val * 16 + a'.val; rw [e, show r % 4 = g.val from j1])
  have eg : headOf64 (chan64 g a') = g := Fin.ext (by show (g.val * 16 + a'.val) / 16 = g.val; omega)
  rw [ec]
  show _ = row w (chan64 g a') fun i => A (ix3 b i (best (scs S b (headOf64 (chan64 g a'))) k'))
  rw [eg]
  exact congrArg (row w (chan64 g a')) (funext fun i => hy i _)

/-- A stored tile of values is its part of the array. -/
theorem val_tile (S : Vec Ideal S2x4x2048 .f32) (hS : ∀ q m, ⊥ < rowsOf S q m) (A : Vec Ideal S2x128x2048 .f32) (w : Vec Ideal S64x128 .f32)
    (y : Vec Ideal S1x128x2048 .f32) (o r : ℕ) (ho : S64x2048.Slices ![o, 0] S16x2048) (hr : S8x16.Slices ![r, 0] S1x16) (hr8 : r < 8)
    (x : S1x1x16x16.Idx) (j : S2x4x16x16.Idx) (j0 : r / 4 = (j 0).val) (j1 : r % 4 = (j 1).val) (j2 : (j 2).val = (x 2).val) (j3 : (j 3).val = (x 3).val)
    (e : o = r % 4 * 16) (hy : ∀ i m, y (ix3 (0 : Fin 1) i m) = A (ix3 (j 0) i m)) :
    pack (mulf (pick (band o ho (projA w y)) (hot r hr (topIdx S))) (gate r hr (gates S))) x = valArr S A w j := by
  have e1 : pack (mulf (pick (band o ho (projA w y)) (hot r hr (topIdx S))) (gate r hr (gates S))) x
      = pack (pick (band o ho (projA w y)) (hot r hr (topIdx S))) x * gate r hr (gates S) (ix2 (x 2) (x 3)) := by
    obtain ⟨p, q, a, k, rfl⟩ : ∃ (p q : Fin 1) (a k : Fin 16), x = ix4 p q a k := ⟨x 0, x 1, x 2, x 3, by ext i; fin_cases i <;> rfl⟩
    pointwise [pack]
  have ek : (x 3 : Fin 16) = j 3 := Fin.ext j3.symm
  have eg : headOf64 (chan64 (j 1) (j 2)) = j 1 := Fin.ext (by
    have := (j 2).isLt
    show ((j 1).val * 16 + (j 2).val) / 16 = (j 1).val
    have h2 : (j 2).val < 16 := (j 2).isLt
    omega)
  rw [e1, key_tile S hS A w y o r ho hr hr8 x j j0 j1 j2 j3 e hy]
  refine congrArg (keyArr S A w j * ·) ?_
  refine (gate_at ⟨r, hr8⟩ hr (gates S) (x 2) (x 3)).trans ((gates_at S hS ⟨r, hr8⟩ (x 3)).trans ?_)
  rw [rowsOf_eq S r hr8 (j 0) (j 1) j0 j1, ek, eg]

/-- The block of one batch is that batch of the array. -/
theorem ld_at (A : Vec Ideal S2x128x2048 .f32) (o : ℕ) (h : ∀ a, (![o, 0, 0] : Fin 3 → ℕ) a + S1x128x2048.size a ≤ S2x128x2048.size a) (b : Fin 2) (e : b.val = o)
    (i : Fin 128) (m : Fin 2048) : View.ld A (Rect.unit (s := S2x128x2048) ![o, 0, 0] S1x128x2048.size h) (ix3 (0 : Fin 1) i m) = A (ix3 b i m) := by
  subst e
  refine congrArg A (funext fun a => Fin.ext ?_)
  match a with
  | ⟨0, _⟩ => show b.val + 1 * 0 = b.val; omega
  | ⟨1, _⟩ => show 0 + 1 * i.val = i.val; omega
  | ⟨2, _⟩ => show 0 + 1 * m.val = m.val; omega

/-- The second result array of the second call. -/
theorem final9 (c : Dev nD) (hS : ∀ q m, ⊥ < rowsOf (V c main_call0_v3_1) q m) :
    (dat1 V c).arrAt 9 cfg1.N = keyArr (V c main_call0_v3_1) (V c main_call0_v4) (V c main_arg9) := by
  refine (dat1 V c).arrAt_eq_of_after_last 9 t1_0 (by decide +kernel) _ fun j => ?_
  blk_simp
  rw [after1_9]
  dsimp only [outsAt1]
  frame_out
  rw [atR, atC, read0, read1, read3]
  simp only [read_unread_whole, at2, at3, at4, at5, at6, at7, at8, at9, at10, at11, at12, at13, at14, at15, at16, at17, at18, at19, at20, at21, at22, at23, at24, at25, at26, at27, at28, at29, at30, at31, at32, at33, at34, at35, at36, at37, at38, at39, at40, at41, at42, at43, at44, at45, at46, at47, at48, at49, at50, at51, at52, at53, at58, at59, at60, at61, at62, at63, at66, at69, at70, at71, at72, at73, at74, at75, at76, at77, at78, at79, at80, at81, at82, at83, at84, at85, at86, at91, at94, at95, at96, at97, at98, at99, at100, at101, at102, at103, at104, at105, at106, at107, at108, at109, at110, at111, at112, at113, at114, at115, at116, at117, at64, at65, at67, at68, at88, at89, at90, at92, at93]
  canon_tiles x h
  all_goals
    refine key_tile (V c main_call0_v3_1) hS (V c main_call0_v4) (V c main_arg9) _ _ _ _ _ (by decide) x j (by omega) (by omega) (by omega) (by omega) rfl ?_
    exact ld_at _ _ _ _ (by omega)

/-- The third result array of the second call. -/
theorem final10 (c : Dev nD) (hS : ∀ q m, ⊥ < rowsOf (V c main_call0_v3_1) q m) :
    (dat1 V c).arrAt 10 cfg1.N = valArr (V c main_call0_v3_1) (V c main_call0_v4) (V c main_arg10) := by
  refine (dat1 V c).arrAt_eq_of_after_last 10 t1_0 (by decide +kernel) _ fun j => ?_
  blk_simp
  rw [after1_10]
  dsimp only [outsAt1]
  frame_out
  rw [atR, atC, read0, read1, read4]
  simp only [read_unread_whole, at2, at3, at4, at5, at6, at7, at8, at9, at10, at11, at12, at13, at14, at15, at16, at17, at18, at19, at20, at21, at22, at23, at24, at25, at26, at27, at28, at29, at30, at31, at32, at33, at34, at35, at36, at37, at38, at39, at40, at41, at42, at43, at44, at45, at46, at47, at48, at49, at50, at51, at52, at53, at58, at59, at60, at61, at62, at63, at66, at69, at70, at71, at72, at73, at74, at75, at76, at77, at78, at79, at80, at81, at82, at83, at84, at85, at86, at91, at94, at95, at96, at97, at98, at99, at100, at101, at102, at103, at104, at105, at106, at107, at108, at109, at110, at111, at112, at113, at114, at115, at116, at117, at64, at65, at67, at68, at88, at89, at90, at92, at93]
  canon_tiles x h
  all_goals
    refine val_tile (V c main_call0_v3_1) hS (V c main_call0_v4) (V c main_arg10) _ _ _ _ _ (by decide) x j (by omega) (by omega) (by omega) (by omega) rfl ?_
    exact ld_at _ _ _ _ (by omega)

end Cert.KernelIdeal.Region1

end
-- ==== Proof.Sums.lean ====
/- Sums over a reduction's kept channel, at the two shapes the normalisation reduces. -/
module

public import proofs.«01_k».proof.Proof.Memory
public import Idealize.ShloMosaic.Lib.Pipeline.ValueKit

@[expose] public section

set_option maxRecDepth 16384

noncomputable section

namespace Cert.Math

open Idealize.ShloMosaic Idealize.ShloMosaic.TcCoe Idealize.SL.Sem

/-- A sum over the outer and the inner axis of three. -/
theorem sum_ends (h : (⟨3, ![2, 64, 2048]⟩ : Shape).Reduces [0, 2] ⟨1, ![64]⟩) (v : (⟨3, ![2, 64, 2048]⟩ : Shape).Idx → EReal) (o : Fin 64) :
    Ideal.reduceAdd h v (ix1 o) = ∑ b : Fin 2, ∑ n : Fin 2048, v (ix3 b o n) := by
  have fib : ∀ i, h.drop i = ix1 o ↔ ∃ k : Fin 2 × Fin 2048, ix3 k.1 o k.2 = i := fun i => by
    constructor
    · intro e
      refine ⟨(i 0, i 2), funext fun a => Fin.ext ?_⟩
      match a with
      | ⟨0, _⟩ => rfl
      | ⟨1, _⟩ => exact (congrArg Fin.val (congrFun e 0)).symm
      | ⟨2, _⟩ => rfl
    · rintro ⟨k, rfl⟩
      funext b
      match b with
      | ⟨0, _⟩ => rfl
  refine (Finset.sum_filter_eq_sum_of_fiber _ (fun k : Fin 2 × Fin 2048 => ix3 k.1 o k.2) (fun _ _ e => Prod.ext (congrFun e 0) (congrFun e 2)) fib v).trans ?_
  simp only [Fintype.sum_prod_type]

/-- The same with a trailing axis of one, from an initial value. -/
theorem sum_ends_one (h : (⟨4, ![2, 64, 2048, 1]⟩ : Shape).ReducesTo [0, 2, 3] ⟨1, ![64]⟩) (v : (⟨4, ![2, 64, 2048, 1]⟩ : Shape).Idx → EReal) (init : EReal) (o : Fin 64) :
    Ideal.hostReduceAdd h v init (ix1 o) = init + ∑ b : Fin 2, ∑ n : Fin 2048, v (ix4 b o n (0 : Fin 1)) := by
  have fib : ∀ i, h.drop i = ix1 o ↔ ∃ k : Fin 2 × Fin 2048, ix4 k.1 o k.2 (0 : Fin 1) = i := fun i => by
    constructor
    · intro e
      refine ⟨(i 0, i 2), funext fun a => Fin.ext ?_⟩
      match a with
      | ⟨0, _⟩ => rfl
      | ⟨1, _⟩ => exact (congrArg Fin.val (congrFun e 0)).symm
      | ⟨2, _⟩ => rfl
      | ⟨3, _⟩ =>
        have h3 : (i 3).val < 1 := (i 3).isLt
        show 0 = (i 3).val
        omega
    · rintro ⟨k, rfl⟩
      funext b
      match b with
      | ⟨0, _⟩ => rfl
  refine congrArg (init + ·) ((Finset.sum_filter_eq_sum_of_fiber _ (fun k : Fin 2 × Fin 2048 => ix4 k.1 o k.2 (0 : Fin 1))
    (fun _ _ e => Prod.ext (congrFun e 0) (congrFun e 2)) fib v).trans ?_)
  simp only [Fintype.sum_prod_type]

end Cert.Math

end
-- ==== Proof.Mixed.lean ====
/- The second call's first result array, in closed form over the contents it is entered at. -/
module

public import proofs.«01_k».proof.Proof.Region1
public import proofs.«01_k».proof.Proof.Sums

@[expose] public section

set_option maxRecDepth 16384

noncomputable section

namespace Cert.KernelIdeal.Region1

open Idealize.ShloMosaic Idealize.ShloMosaic.TcCoe Idealize.SL.Sem
open Idealize.ShloMosaic.Pipeline (Dat)
open Cert.KernelIdeal Cert.KernelIdeal.Gen Cert.KernelIdeal.Select Cert.Math

variable (V : (c : Dev nD) → (b : Ref sig .tc) → Buf (Elt Ideal) ((c : Thread nD τ).loc b))

/-- The mixed attention of point `n` of batch `b` in channel `o`. -/
def mixed (S : Vec Ideal S2x4x2048 .f32) (A : Vec Ideal S2x128x2048 .f32) (wq wk wv : Vec Ideal S64x128 .f32) (wm : Vec Ideal S64x64 .f32)
    (o : Fin 64) (b : Fin 2) (n : Fin 2048) : EReal := row wm o fun r => memOut wq wk wv (pts A b) (scs S b) r n

/-- The array of normalised channels. -/
def normArr (S : Vec Ideal S2x4x2048 .f32) (A : Vec Ideal S2x128x2048 .f32) (wq wk wv : Vec Ideal S64x128 .f32) (wm : Vec Ideal S64x64 .f32)
    (ga be : Vec Ideal S64x1 .f32) : Vec Ideal S2x64x2048 .f32 :=
  fun i => bnorm (mixed S A wq wk wv wm (i 1)) (ga (ix2 (i 1) (0 : Fin 1))) (be (ix2 (i 1) (0 : Fin 1))) (i 0) (i 2)

/-- The last stage, element by element. -/
theorem norm_at (M : FVec Ideal S2x64x2048 .f32) (ga be : Vec Ideal S64x1 .f32) (b : Fin 2) (o : Fin 64) (n : Fin 2048) :
    k1_pay1 (F := Ideal) (k1_pay118 M) (k1_pay119 M) ga be (ix3 b o n)
      = bnorm (fun b n => M (ix3 b o n)) (ga (ix2 o (0 : Fin 1))) (be (ix2 o (0 : Fin 1))) b n := by
  pointwise [k1_pay1, k1_pay118, k1_pay119]
  rw [sum_ends, sum_ends]
  pointwise []
  simp only [sum_ends]
  rfl

/-- One head of the memory attention. -/
theorem head_tile (S : Vec Ideal S2x4x2048 .f32) (hS : ∀ q m, ⊥ < rowsOf S q m) (A : Vec Ideal S2x128x2048 .f32) (wq wk wv : Vec Ideal S64x128 .f32)
    (y : Vec Ideal S1x128x2048 .f32) (o r : ℕ) (ho : S64x2048.Slices ![o, 0] S16x2048) (hr : S8x16.Slices ![r, 0] S1x16) (hr8 : r < 8)
    (b : Fin 2) (hb : r / 4 = b.val) (e : o = r % 4 * 16) (hy : ∀ i m, y (ix3 (0 : Fin 1) i m) = A (ix3 b i m)) (n : Fin 2048) (k : Fin 16) :
    headA (band o ho (projA wq y)) (pick (band o ho (projA wk y)) (hot r hr (topIdx S)))
        (mulf (pick (band o ho (projA wv y)) (hot r hr (topIdx S))) (gate r hr (gates S))) (ix2 k n)
      = memOut wq wk wv (pts A b) (scs S b) ⟨o + k.val, by omega⟩ n := by
  have h16 : o + 16 ≤ 64 := by omega
  have hg : r % 4 < 4 := by omega
  have eg : ∀ k : Fin 16, headOf64 (⟨o + k.val, by omega⟩ : Fin 64) = ⟨r % 4, hg⟩ := fun k => Fin.ext (by show (o + k.val) / 16 = r % 4; omega)
  have ec : ∀ c : Fin 16, chan64 (⟨r % 4, hg⟩ : Fin 4) c = ⟨o + c.val, by omega⟩ := fun c => Fin.ext (by show r % 4 * 16 + c.val = o + c.val; omega)
  have ey : ∀ m, (fun i => y (ix3 (0 : Fin 1) i m)) = fun i => pts A b i m := fun m => funext fun i => hy i m
  have pk : ∀ (w : Vec Ideal S64x128 .f32) (c k : Fin 16), pick (band o ho (projA w y)) (hot r hr (topIdx S)) (ix2 c k)
      = keyM w (pts A b) (scs S b) ⟨o + c.val, by omega⟩ k := fun w c k => by
    refine (picked_at S hS w y o ho h16 ⟨r, hr8⟩ hr c k).trans ?_
    rw [ey, rowsOf_eq S r hr8 b ⟨r % 4, hg⟩ hb rfl, keyM, eg]
  have gt : ∀ c k : Fin 16, gate r hr (gates S) (ix2 c k) = Ideal.tanh (scs S b ⟨r % 4, hg⟩ (best (scs S b ⟨r % 4, hg⟩) k)) := fun c k => by
    refine (gate_at ⟨r, hr8⟩ hr (gates S) c k).trans ((gates_at S hS ⟨r, hr8⟩ k).trans ?_)
    rw [rowsOf_eq S r hr8 b ⟨r % 4, hg⟩ hb rfl]
  have vl : ∀ c k : Fin 16, mulf (pick (band o ho (projA wv y)) (hot r hr (topIdx S))) (gate r hr (gates S)) (ix2 c k)
      = valM wv (pts A b) (scs S b) ⟨o + c.val, by omega⟩ k := fun c k => by
    rw [valM, eg, ← gt c k, ← pk wv c k]
    rfl
  rw [headA_at o ho h16, memOut]
  simp only [vl, pk, projA_at, ey, eg, ec]

/-- A stored batch of the mixing is its part of the array. -/
theorem mix_tile (S : Vec Ideal S2x4x2048 .f32) (hS : ∀ q m, ⊥ < rowsOf S q m) (A : Vec Ideal S2x128x2048 .f32) (wq wk wv : Vec Ideal S64x128 .f32) (wm : Vec Ideal S64x64 .f32)
    (y : Vec Ideal S1x128x2048 .f32) (r₀ r₁ r₂ r₃ : ℕ) (hr₀ : S8x16.Slices ![r₀, 0] S1x16) (hr₁ : S8x16.Slices ![r₁, 0] S1x16) (hr₂ : S8x16.Slices ![r₂, 0] S1x16)
    (hr₃ : S8x16.Slices ![r₃, 0] S1x16) (x : S1x64x2048.Idx) (j : S2x64x2048.Idx) (j1 : (j 1).val = (x 1).val) (j2 : (j 2).val = (x 2).val)
    (e₀ : r₀ = 4 * (j 0).val) (e₁ : r₁ = 4 * (j 0).val + 1) (e₂ : r₂ = 4 * (j 0).val + 2) (e₃ : r₃ = 4 * (j 0).val + 3)
    (hy : ∀ i m, y (ix3 (0 : Fin 1) i m) = A (ix3 (j 0) i m)) :
    mixA
        (headA (band 0 slices_S64x2048_o0_0_S16x2048 (projA wq y)) (pick (band 0 slices_S64x2048_o0_0_S16x2048 (projA wk y)) (hot r₀ hr₀ (topIdx S)))
          (mulf (pick (band 0 slices_S64x2048_o0_0_S16x2048 (projA wv y)) (hot r₀ hr₀ (topIdx S))) (gate r₀ hr₀ (gates S))))
        (headA (band 16 slices_S64x2048_o16_0_S16x2048 (projA wq y)) (pick (band 16 slices_S64x2048_o16_0_S16x2048 (projA wk y)) (hot r₁ hr₁ (topIdx S)))
          (mulf (pick (band 16 slices_S64x2048_o16_0_S16x2048 (projA wv y)) (hot r₁ hr₁ (topIdx S))) (gate r₁ hr₁ (gates S))))
        (headA (band 32 slices_S64x2048_o32_0_S16x2048 (projA wq y)) (pick (band 32 slices_S64x2048_o32_0_S16x2048 (projA wk y)) (hot r₂ hr₂ (topIdx S)))
          (mulf (pick (band 32 slices_S64x2048_o32_0_S16x2048 (projA wv y)) (hot r₂ hr₂ (topIdx S))) (gate r₂ hr₂ (gates S))))
        (headA (band 48 slices_S64x2048_o48_0_S16x2048 (projA wq y)) (pick (band 48 slices_S64x2048_o48_0_S16x2048 (projA wk y)) (hot r₃ hr₃ (topIdx S)))
          (mulf (pick (band 48 slices_S64x2048_o48_0_S16x2048 (projA wv y)) (hot r₃ hr₃ (topIdx S))) (gate r₃ hr₃ (gates S))))
        wm x
      = mixed S A wq wk wv wm (j 1) (j 0) (j 2) := by
  have jb : (j 0).val < 2 := (j 0).isLt
  obtain ⟨p, o, n, rfl⟩ : ∃ (p : Fin 1) (o : Fin 64) (n : Fin 2048), x = ix3 p o n := ⟨x 0, x 1, x 2, by ext i; fin_cases i <;> rfl⟩
  obtain rfl : p = 0 := Subsingleton.elim _ _
  have eo : (j 1 : Fin 64) = o := Fin.ext j1
  have en : (j 2 : Fin 2048) = n := Fin.ext j2
  rw [eo, en]
  exact mixA_at _ _ _ _ wm (fun r => memOut wq wk wv (pts A (j 0)) (scs S (j 0)) r n) n o
    (head_tile S hS A wq wk wv y _ _ _ _ (by omega) (j 0) (by omega) (by omega) hy n)
    (head_tile S hS A wq wk wv y _ _ _ _ (by omega) (j 0) (by omega) (by omega) hy n)
    (head_tile S hS A wq wk wv y _ _ _ _ (by omega) (j 0) (by omega) (by omega) hy n)
    (head_tile S hS A wq wk wv y _ _ _ _ (by omega) (j 0) (by omega) (by omega) hy n)

/-- The first result array of the second call. -/
theorem final8 (c : Dev nD) (hS : ∀ q m, ⊥ < rowsOf (V c main_call0_v3_1) q m) :
    (dat1 V c).arrAt 8 cfg1.N = normArr (V c main_call0_v3_1) (V c main_call0_v4) (V c main_arg8) (V c main_arg9) (V c main_arg10) (V c main_arg11)
      (V c main_call0_v5) (V c main_call0_v6) := by
  refine (dat1 V c).arrAt_eq_of_after_last 8 t1_0 (by decide +kernel) _ fun j => ?_
  blk_simp
  rw [after1_8]
  dsimp only [outsAt1]
  frame_out
  rw [atR, atC, read0, read1, read2, read3, read4, read5, read6, read7]
  simp only [read_unread_whole, at2, at3, at4, at5, at6, at7, at8, at9, at10, at11, at12, at13, at14, at15, at16, at17, at18, at19, at20, at21, at22, at23, at24, at25, at26, at27, at28, at29, at30, at31, at32, at33, at34, at35, at36, at37, at38, at39, at40, at41, at42, at43, at44, at45, at46, at47, at48, at49, at50, at51, at52, at53, at58, at59, at60, at61, at62, at63, at66, at69, at70, at71, at72, at73, at74, at75, at76, at77, at78, at79, at80, at81, at82, at83, at84, at85, at86, at91, at94, at95, at96, at97, at98, at99, at100, at101, at102, at103, at104, at105, at106, at107, at108, at109, at110, at111, at112, at113, at114, at115, at116, at117, at64, at65, at67, at68, at88, at89, at90, at92, at93]
  obtain ⟨b, o, n, rfl⟩ : ∃ (b : Fin 2) (o : Fin 64) (n : Fin 2048), j = ix3 b o n := ⟨j 0, j 1, j 2, by ext i; fin_cases i <;> rfl⟩
  refine (norm_at _ _ _ b o n).trans ?_
  refine congrArg (fun M => bnorm M _ _ b n) (funext fun b => funext fun n => ?_)
  rw [View.readCov_eq_canon']
  have ej : (Rect.unit (s := S2x64x2048) ![0, 0, 0] S2x64x2048.size inb_S2x64x2048_S2x64x2048_0_0_0).toLoadRect.idx (ix3 b o n) = ix3 b o n :=
    funext fun a => Fin.ext (match a with
      | ⟨0, _⟩ => (by show 0 + 1 * b.val = b.val; omega)
      | ⟨1, _⟩ => (by show 0 + 1 * o.val = o.val; omega)
      | ⟨2, _⟩ => (by show 0 + 1 * n.val = n.val; omega))
  refine (congrArg (View.canon _) ej).trans ?_
  generalize hj : (ix3 b o n : S2x64x2048.Idx) = j
  have eb : b = j 0 := by rw [← hj]; rfl
  have eo : o = j 1 := by rw [← hj]; rfl
  have en : n = j 2 := by rw [← hj]; rfl
  clear hj ej
  show _ = mixed _ _ _ _ _ _ o b n
  rw [eb, eo, en]
  clear eb eo en
  canon_tiles x h
  all_goals
    refine mix_tile (V c main_call0_v3_1) hS (V c main_call0_v4) (V c main_arg8) (V c main_arg9) (V c main_arg10) (V c main_arg11) _ _ _ _ _ _ _ _ _ x j
      (by omega) (by omega) (by omega) (by omega) (by omega) (by omega) ?_
    exact ld_at _ _ _ _ (by omega)

end Cert.KernelIdeal.Region1

end
-- ==== Proof.Result.lean ====
/- The three results as functions of the argument arrays. -/
module

public import proofs.«01_k».proof.Proof.Memory

@[expose] public section

set_option maxRecDepth 16384

noncomputable section

namespace Cert.Math

open Idealize.ShloMosaic Idealize.ShloMosaic.TcCoe Idealize.SL.Sem

/-- The neighbour vectors of point `n` of batch `b`. -/
def nbrAt (x : (⟨4, ![2, 256, 2048, 16]⟩ : Shape).Idx → EReal) (b : Fin 2) (n : Fin 2048) (k : Fin 16) (i : Fin 256) : EReal := x (ix4 b i n k)

/-- The points of batch `b`. -/
def ptsAt (y : (⟨4, ![2, 128, 2048, 1]⟩ : Shape).Idx → EReal) (b : Fin 2) (i : Fin 128) (n : Fin 2048) : EReal := y (ix4 b i n (0 : Fin 1))

/-- The score of point `m` in head `g` of batch `b`. -/
def scoreAt (x : (⟨4, ![2, 256, 2048, 16]⟩ : Shape).Idx → EReal) (d : (⟨4, ![2, 1, 2048, 16]⟩ : Shape).Idx → BitVec 32) (wq wk : (⟨2, ![192, 256]⟩ : Shape).Idx → EReal)
    (b : Fin 2) (g : Fin 4) (m : Fin 2048) : EReal :=
  ∑ n, leave (fun k => d (ix4 b (0 : Fin 1) n k)) (attn wq wk (nbrAt x b n) g) m.val

/-- The memory keys. -/
def keysOf (x : (⟨4, ![2, 256, 2048, 16]⟩ : Shape).Idx → EReal) (y : (⟨4, ![2, 128, 2048, 1]⟩ : Shape).Idx → EReal) (d : (⟨4, ![2, 1, 2048, 16]⟩ : Shape).Idx → BitVec 32)
    (wq wk : (⟨2, ![192, 256]⟩ : Shape).Idx → EReal) (w : (⟨2, ![64, 128]⟩ : Shape).Idx → EReal) : (⟨4, ![2, 4, 16, 16]⟩ : Shape).Idx → EReal :=
  fun i => keyM w (ptsAt y (i 0)) (scoreAt x d wq wk (i 0)) (chan64 (i 1) (i 2)) (i 3)

/-- The memory values. -/
def valsOf (x : (⟨4, ![2, 256, 2048, 16]⟩ : Shape).Idx → EReal) (y : (⟨4, ![2, 128, 2048, 1]⟩ : Shape).Idx → EReal) (d : (⟨4, ![2, 1, 2048, 16]⟩ : Shape).Idx → BitVec 32)
    (wq wk : (⟨2, ![192, 256]⟩ : Shape).Idx → EReal) (w : (⟨2, ![64, 128]⟩ : Shape).Idx → EReal) : (⟨4, ![2, 4, 16, 16]⟩ : Shape).Idx → EReal :=
  fun i => valM w (ptsAt y (i 0)) (scoreAt x d wq wk (i 0)) (chan64 (i 1) (i 2)) (i 3)

/-- The mixed channel `o` of the memory attention before its normalisation. -/
def mixOf (x : (⟨4, ![2, 256, 2048, 16]⟩ : Shape).Idx → EReal) (y : (⟨4, ![2, 128, 2048, 1]⟩ : Shape).Idx → EReal) (d : (⟨4, ![2, 1, 2048, 16]⟩ : Shape).Idx → BitVec 32)
    (wq wk : (⟨2, ![192, 256]⟩ : Shape).Idx → EReal) (w8 w9 w10 : (⟨2, ![64, 128]⟩ : Shape).Idx → EReal) (w11 : (⟨2, ![64, 64]⟩ : Shape).Idx → EReal)
    (o : Fin 64) (b : Fin 2) (n : Fin 2048) : EReal :=
  row w11 o fun r => memOut w8 w9 w10 (ptsAt y b) (scoreAt x d wq wk b) r n

/-- The first result: the local channels, then the normalised ones. -/
def outOf (x : (⟨4, ![2, 256, 2048, 16]⟩ : Shape).Idx → EReal) (y : (⟨4, ![2, 128, 2048, 1]⟩ : Shape).Idx → EReal) (d : (⟨4, ![2, 1, 2048, 16]⟩ : Shape).Idx → BitVec 32)
    (wq wk wv : (⟨2, ![192, 256]⟩ : Shape).Idx → EReal) (w8 w9 w10 : (⟨2, ![64, 128]⟩ : Shape).Idx → EReal) (w11 : (⟨2, ![64, 64]⟩ : Shape).Idx → EReal)
    (ga be : (⟨1, ![64]⟩ : Shape).Idx → EReal) (b : Fin 2) (r : Fin 256) (n : Fin 2048) : EReal :=
  if h : r.val < 192 then loc wq wk wv (nbrAt x b n) ⟨r.val, h⟩
  else bnorm (mixOf x y d wq wk w8 w9 w10 w11 ⟨r.val - 192, by omega⟩) (ga (ix1 ⟨r.val - 192, by omega⟩)) (be (ix1 ⟨r.val - 192, by omega⟩)) b n

end Cert.Math

end
-- ==== Proof.Positive.lean ====
/- Finite inputs make every score a sum of weights, none of them negative. -/
module

public import proofs.«01_k».proof.Proof.Spec

@[expose] public section

set_option maxRecDepth 16384

noncomputable section

namespace Cert.Math

open Idealize.ShloMosaic

/-- Neither infinity. -/
def Real' (x : EReal) : Prop := ∃ r : ℝ, x = r

/-- A value below the greatest in magnitude is a real number. -/
theorem real_of_abs {x : EReal} (h : max x (-x) < ⊤) : Real' x := by
  induction x using EReal.rec with
  | bot => simp at h
  | top => simp at h
  | coe r => exact ⟨r, rfl⟩

/-- Products of reals are real. -/
theorem real_mul {x y : EReal} (hx : Real' x) (hy : Real' y) : Real' (x * y) := by
  obtain ⟨r, rfl⟩ := hx
  obtain ⟨s, rfl⟩ := hy
  exact ⟨r * s, (EReal.coe_mul r s).symm⟩

/-- Sums of reals are real. -/
theorem real_sum {ι : Type} (s : Finset ι) (f : ι → EReal) (h : ∀ i, Real' (f i)) : Real' (∑ i ∈ s, f i) := by
  classical
  induction s using Finset.induction_on with
  | empty => exact ⟨0, by simp⟩
  | insert a s ha ih =>
    rw [Finset.sum_insert ha]
    obtain ⟨r, hr⟩ := h a
    obtain ⟨t, ht⟩ := ih
    exact ⟨r + t, by rw [hr, ht, EReal.coe_add]⟩

/-- A row of a real matrix applied to a real vector is real. -/
theorem real_row {a n : ℕ} {W : (⟨2, ![a, n]⟩ : Shape).Idx → EReal} (hW : ∀ i, Real' (W i)) (r : Fin a) {x : Fin n → EReal} (hx : ∀ i, Real' (x i)) :
    Real' (row W r x) := real_sum _ _ fun _ => real_mul (hW _) (hx _)

/-- A logit of real inputs is real. -/
theorem real_logit {Wq Wk : (⟨2, ![192, 256]⟩ : Shape).Idx → EReal} (hq : ∀ i, Real' (Wq i)) (hk : ∀ i, Real' (Wk i)) {x : Fin 256 → EReal} (hx : ∀ i, Real' (x i)) (g : Fin 4) :
    Real' (logit Wq Wk x g) := real_sum _ _ fun _ => real_mul (real_row hq _ hx) (real_row hk _ hx)

/-- No exponential is negative. -/
theorem exp_nonneg (x : EReal) : 0 ≤ Ideal.exp x := by
  induction x using EReal.rec with
  | bot => exact le_refl _
  | top => exact le_top
  | coe r => exact EReal.coe_nonneg.2 (Real.exp_pos r).le

/-- Above the least value, an exponential is positive. -/
theorem exp_pos' {x : EReal} (h : x ≠ ⊥) : 0 < Ideal.exp x := by
  induction x using EReal.rec with
  | bot => exact absurd rfl h
  | top => exact EReal.zero_lt_top
  | coe r => exact EReal.coe_pos.2 (Real.exp_pos r)

/-- No softmax of a real family is negative. -/
theorem soft_nonneg {n : ℕ} {f : Fin n → EReal} (h : ∀ k, Real' (f k)) (k : Fin n) : 0 ≤ soft f k := by
  have hm : mx f < ⊤ := (Finset.fold_max_lt _).2 ⟨bot_lt_top, fun i _ => by obtain ⟨r, e⟩ := h i; rw [e]; exact EReal.coe_lt_top r⟩
  have hs : 0 < ∑ j, Ideal.exp (f j - mx f) := by
    refine lt_of_lt_of_le (exp_pos' (x := f k - mx f) ?_) (Finset.single_le_sum (f := fun j => Ideal.exp (f j - mx f)) (fun j _ => exp_nonneg _) (Finset.mem_univ k))
    obtain ⟨r, e⟩ := h k
    rw [e]
    intro q
    rw [sub_eq_add_neg, EReal.add_eq_bot_iff] at q
    rcases q with q | q
    · exact EReal.coe_ne_bot r q
    · exact hm.ne (by simpa using q)
  rw [soft, Ideal.div, if_neg hs.ne']
  exact mul_nonneg (exp_nonneg _) (EReal.inv_nonneg_of_nonneg hs.le)

/-- What a point leaves on a target is not negative when its weights are not. -/
theorem leave_nonneg (D : Fin 16 → BitVec 32) {A : Fin 16 → EReal} (h : ∀ k, 0 ≤ A k) (m : ℕ) : 0 ≤ leave D A m := by
  refine Finset.sum_nonneg fun k _ => mul_nonneg (mul_nonneg (h k) ?_) ?_
  · unfold keep
    split <;> simp
  · split <;> simp

end Cert.Math

end
-- ==== Proof.KernelOut.lean ====
/- The kernel's three results as functions of its arguments. -/
module

public import proofs.«01_k».proof.Proof.Whole
public import proofs.«01_k».proof.Proof.Mixed
public import proofs.«01_k».proof.Proof.Result
public import proofs.«01_k».proof.Proof.Positive

@[expose] public section

set_option maxRecDepth 16384

noncomputable section

namespace Cert.KernelIdeal.Whole

open Idealize.ShloMosaic Idealize.ShloMosaic.TcCoe Idealize.SL.Sem
open Cert.KernelIdeal Cert.KernelIdeal.Gen Cert.KernelIdeal.Select Cert.KernelIdeal.Region1 Cert.Math

variable (m : (ℓ : Loc nD τ sig) → Buf (Elt Ideal) ℓ) (ρ : Dev nD → PrngReg) (c : Dev nD)

/-- The joined channels, read at an index. -/
theorem join_at (a : Vec Ideal S2x192x2048 .f32) (z : Vec Ideal S2x64x2048 .f32) (b : Fin 2) (r : Fin 256) (n : Fin 2048) :
    join a z (ix4 b r n (0 : Fin 1)) = if h : r.val < 192 then a (ix3 b ⟨r.val, h⟩ n) else z (ix3 b ⟨r.val - 192, by omega⟩ n) := by
  pointwise [join]

/-- The neighbours' array with its last two axes exchanged. -/
theorem swap_at (x : Vec Ideal S2x256x2048x16 .f32) (b : Fin 2) (i : Fin 256) (k : Fin 16) (n : Fin 2048) :
    transpose S2x256x16x2048 [0, 1, 3, 2] x transposes_S2x256x2048x16_S2x256x16x2048_0_1_3_2 (ix4 b i k n) = x (ix4 b i n k) := by
  pointwise []

/-- The indices without their axis of one, their last two axes exchanged. -/
theorem swap_idx_at (x : Vec Ideal S2x1x2048x16 .i32) (b : Fin 2) (k : Fin 16) (n : Fin 2048) :
    transpose S2x16x2048 [0, 2, 1] (shapeCast S2x2048x16 x shapeCasts_S2x1x2048x16_S2x2048x16) transposes_S2x2048x16_S2x16x2048_0_2_1 (ix3 b k n)
      = x (ix4 b (0 : Fin 1) n k) := by
  pointwise []

/-- The points without their axis of one. -/
theorem flat_at (x : Vec Ideal S2x128x2048x1 .f32) (b : Fin 2) (i : Fin 128) (n : Fin 2048) :
    shapeCast S2x128x2048 x shapeCasts_S2x128x2048x1_S2x128x2048 (ix3 b i n) = x (ix4 b i n (0 : Fin 1)) := by
  pointwise []

/-- A vector as a column. -/
theorem column_at (x : Vec Ideal S64 .f32) (o : Fin 64) : shapeCast S64x1 x shapeCasts_S64_S64x1 (ix2 o (0 : Fin 1)) = x (ix1 o) := by
  pointwise []

/-- The neighbour vectors the first call reads. -/
theorem nbr_v0 (b : Fin 2) (n : Fin 2048) : Region0.nbr (V1 m ρ c main_call0_v0) b n = nbrAt (m ((c : Thread nD τ).loc main_arg0)) b n := by
  rw [V1_v0]
  funext k i
  exact swap_at _ b i k n

/-- The indices the first call reads. -/
theorem idx_v2 (b : Fin 2) (k : Fin 16) (n : Fin 2048) : V1 m ρ c main_call0_v2 (ix3 b k n) = m ((c : Thread nD τ).loc main_arg2) (ix4 b (0 : Fin 1) n k) := by
  rw [V1_v2]
  exact swap_idx_at _ b k n

/-- The points the second call reads. -/
theorem pts_v4 (b : Fin 2) : pts (V3 m ρ c main_call0_v4) b = ptsAt (m ((c : Thread nD τ).loc main_arg1)) b := by
  rw [V3_v4]
  funext i n
  exact flat_at _ b i n

/-- The scores the second call reads. -/
theorem scs_v3 (b : Fin 2) : scs (V3 m ρ c main_call0_v3_1) b
    = scoreAt (m ((c : Thread nD τ).loc main_arg0)) (m ((c : Thread nD τ).loc main_arg2)) (m ((c : Thread nD τ).loc main_arg5)) (m ((c : Thread nD τ).loc main_arg6)) b := by
  rw [V3_score, Region0.final6, V1_arg5, V1_arg6]
  funext g p
  refine Finset.sum_congr rfl fun n _ => ?_
  exact congrArg₂ (fun D X => leave D (attn _ _ X g) p.val) (funext fun k => idx_v2 m ρ c b k n) (nbr_v0 m ρ c b n)

/-- The scale the second call reads. -/
theorem ga_v5 (o : Fin 64) : V3 m ρ c main_call0_v5 (ix2 o (0 : Fin 1)) = m ((c : Thread nD τ).loc main_arg12) (ix1 o) := by
  rw [V3_v5]
  exact column_at _ o

/-- The shift the second call reads. -/
theorem be_v6 (o : Fin 64) : V3 m ρ c main_call0_v6 (ix2 o (0 : Fin 1)) = m ((c : Thread nD τ).loc main_arg13) (ix1 o) := by
  rw [V3_v6]
  exact column_at _ o

/-- With real inputs no score is the least value. -/
theorem score_above (h0 : ∀ i, Real' (m ((c : Thread nD τ).loc main_arg0) i)) (h5 : ∀ i, Real' (m ((c : Thread nD τ).loc main_arg5) i))
    (h6 : ∀ i, Real' (m ((c : Thread nD τ).loc main_arg6) i)) (q : Fin 8) (p : Fin 2048) : ⊥ < rowsOf (V3 m ρ c main_call0_v3_1) q p := by
  have e := congrFun (congrFun (scs_v3 m ρ c ⟨q.val / 4, by omega⟩) ⟨q.val % 4, by omega⟩) p
  refine lt_of_lt_of_eq ?_ e.symm
  refine lt_of_lt_of_le EReal.bot_lt_zero (Finset.sum_nonneg fun n _ => leave_nonneg _ (fun k => soft_nonneg (fun k => real_logit h5 h6 (fun i => h0 _) _) k) _)

variable (h0 : ∀ i, Real' (m ((c : Thread nD τ).loc main_arg0) i)) (h5 : ∀ i, Real' (m ((c : Thread nD τ).loc main_arg5) i))
    (h6 : ∀ i, Real' (m ((c : Thread nD τ).loc main_arg6) i))

/-- Normalisation of equal channels with equal scale and shift. -/
theorem bnorm_congr {M M' : Fin 2 → Fin 2048 → EReal} {g g' e e' : EReal} (hM : M = M') (hg : g = g') (he : e = e') (b : Fin 2) (n : Fin 2048) :
    bnorm M g e b n = bnorm M' g' e' b n := by
  rw [hM, hg, he]

include h0 h5 h6

/-- The second result: the memory keys. -/
theorem result1 : W5 m ρ c (Proc.devRef .tc main_v0_1)
    = keysOf (m ((c : Thread nD τ).loc main_arg0)) (m ((c : Thread nD τ).loc main_arg1)) (m ((c : Thread nD τ).loc main_arg2)) (m ((c : Thread nD τ).loc main_arg5))
        (m ((c : Thread nD τ).loc main_arg6)) (m ((c : Thread nD τ).loc main_arg9)) := by
  rw [W5_v0_1, Region1.final9 _ c (score_above m ρ c h0 h5 h6), V3_arg9]
  funext i
  exact congrArg₂ (fun P S => keyM _ P S (chan64 (i 1) (i 2)) (i 3)) (pts_v4 m ρ c (i 0)) (scs_v3 m ρ c (i 0))

/-- The third result: the memory values. -/
theorem result2 : W5 m ρ c (Proc.devRef .tc main_v0_2)
    = valsOf (m ((c : Thread nD τ).loc main_arg0)) (m ((c : Thread nD τ).loc main_arg1)) (m ((c : Thread nD τ).loc main_arg2)) (m ((c : Thread nD τ).loc main_arg5))
        (m ((c : Thread nD τ).loc main_arg6)) (m ((c : Thread nD τ).loc main_arg10)) := by
  rw [W5_v0_2, final10 _ c (score_above m ρ c h0 h5 h6), V3_arg10]
  funext i
  exact congrArg₂ (fun P S => valM _ P S (chan64 (i 1) (i 2)) (i 3)) (pts_v4 m ρ c (i 0)) (scs_v3 m ρ c (i 0))

/-- The first result: the local channels, then the normalised ones. -/
theorem result0 (b : Fin 2) (r : Fin 256) (n : Fin 2048) : W5 m ρ c (Proc.devRef .tc main_v0_0) (ix4 b r n (0 : Fin 1))
    = outOf (m ((c : Thread nD τ).loc main_arg0)) (m ((c : Thread nD τ).loc main_arg1)) (m ((c : Thread nD τ).loc main_arg2)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13)) b r n := by
  rw [W5_v0_0, final8 _ c (score_above m ρ c h0 h5 h6), Region0.final5, V1_arg5, V1_arg6, V1_arg7, V3_arg8, V3_arg9, V3_arg10, V3_arg11, join_at, outOf]
  by_cases h : r.val < 192
  · rw [dif_pos h, dif_pos h]
    show loc _ _ _ (Region0.nbr (V1 m ρ c main_call0_v0) b n) _ = _
    rw [nbr_v0]
    rfl
  · rw [dif_neg h, dif_neg h]
    have e : ∀ o, mixed (V3 m ρ c main_call0_v3_1) (V3 m ρ c main_call0_v4) (m ((c : Thread nD τ).loc main_arg8)) (m ((c : Thread nD τ).loc main_arg9))
        (m ((c : Thread nD τ).loc main_arg10)) (m ((c : Thread nD τ).loc main_arg11)) o = mixOf (m ((c : Thread nD τ).loc main_arg0)) (m ((c : Thread nD τ).loc main_arg1))
        (m ((c : Thread nD τ).loc main_arg2)) (m ((c : Thread nD τ).loc main_arg5)) (m ((c : Thread nD τ).loc main_arg6)) (m ((c : Thread nD τ).loc main_arg8))
        (m ((c : Thread nD τ).loc main_arg9)) (m ((c : Thread nD τ).loc main_arg10)) (m ((c : Thread nD τ).loc main_arg11)) o := fun o => by
      funext b n
      exact congrArg₂ (fun P S => row _ o fun r => memOut _ _ _ P S r n) (pts_v4 m ρ c b) (scs_v3 m ρ c b)
    exact bnorm_congr (e _) (ga_v5 m ρ c _) (be_v6 m ρ c _) b n

end Cert.KernelIdeal.Whole

end
-- ==== Proof.RefLocal.lean ====
/- The reference's attention and local results, read at an index. -/
module

public import proofs.«01_k».proof.Proof.Spec
public import proofs.«01_k».proof.Proof.Gen.ReferenceIdeal.Read

@[expose] public section

set_option maxRecDepth 16384

noncomputable section

namespace Cert.ReferenceIdeal.Local

open Idealize.ShloMosaic Idealize.ShloMosaic.TcCoe Idealize.SL.Sem
open Cert.ReferenceIdeal Cert.ReferenceIdeal.Read Cert.Math

/-- The neighbour vectors of point `n` of batch `b`. -/
abbrev nbr (X : Vec Ideal S2x256x2048x16 .f32) (b : Fin 2) (n : Fin 2048) : Fin 16 → Fin 256 → EReal := fun k i => X (ix4 b i n k)

/-- A query channel. -/
theorem v1_apply (x0 : Vec Ideal S2x256x2048x16 .f32) (x5 : Vec Ideal S192x256 .f32) (b : Fin 2) (r : Fin 192) (n : Fin 2048) (k : Fin 16) :
    val_main_v1 (F := Ideal) x0 x5 (ix4 b r n k) = row x5 r (nbr x0 b n k) := by
  pointwise [val_main_v1, val_main_v0, row]
  exact Finset.sum_congr rfl fun i _ => mul_comm _ _

/-- A key channel. -/
theorem v3_apply (x0 : Vec Ideal S2x256x2048x16 .f32) (x6 : Vec Ideal S192x256 .f32) (b : Fin 2) (r : Fin 192) (n : Fin 2048) (k : Fin 16) :
    val_main_v3 (F := Ideal) x0 x6 (ix4 b r n k) = row x6 r (nbr x0 b n k) := v1_apply x0 x6 b r n k

/-- A value channel. -/
theorem v5_apply (x0 : Vec Ideal S2x256x2048x16 .f32) (x7 : Vec Ideal S192x256 .f32) (b : Fin 2) (r : Fin 192) (n : Fin 2048) (k : Fin 16) :
    val_main_v5 (F := Ideal) x0 x7 (ix4 b r n k) = row x7 r (nbr x0 b n k) := v1_apply x0 x7 b r n k

/-- A logit. -/
theorem v10_apply (x0 : Vec Ideal S2x256x2048x16 .f32) (x5 x6 : Vec Ideal S192x256 .f32) (b : Fin 2) (g : Fin 4) (n : Fin 2048) (k : Fin 16) :
    val_main_v10 (F := Ideal) x0 x5 x6 (ix4 b g n k) = logit x5 x6 (nbr x0 b n k) g := by
  pointwise [val_main_v10, val_main_v9, val_main_v6, val_main_v7, logit, val_main_cst]
  simp only [v1_apply, v3_apply]

/-- The attention. -/
theorem v21_apply (x0 : Vec Ideal S2x256x2048x16 .f32) (x5 x6 : Vec Ideal S192x256 .f32) (b : Fin 2) (g : Fin 4) (n : Fin 2048) (k : Fin 16) :
    val_main_v21 (F := Ideal) x0 x5 x6 (ix4 b g n k) = attn x5 x6 (nbr x0 b n) g k := by
  pointwise [val_main_v21, val_main_v20, val_main_v19, val_main_v18, val_main_v17, val_main_v16, val_main_v15, val_main_v14, val_main_v13, val_main_v12, val_main_v11, val_main_cst_0, val_main_cst_1, val_main_cst_2, attn, soft]
  simp only [v10_apply, ninf_word, max_bot_left]
  rfl

/-- The local result. -/
theorem v63_apply (x0 : Vec Ideal S2x256x2048x16 .f32) (x5 x6 x7 : Vec Ideal S192x256 .f32) (b : Fin 2) (r : Fin 192) (n : Fin 2048) :
    val_main_v63 (F := Ideal) x0 x5 x6 x7 (ix4 b r n (0 : Fin 1)) = loc x5 x6 x7 (nbr x0 b n) r := by
  pointwise [val_main_v63, val_main_v62, val_main_v61, val_main_v8, loc]
  simp only [v5_apply, v21_apply]

end Cert.ReferenceIdeal.Local

end
-- ==== Proof.RefScore.lean ====
/- The reference's scores, read at an index: what the last neighbour naming a target leaves there, summed over the points. -/
module

public import proofs.«01_k».proof.Proof.RefLocal
public import Idealize.ShloMosaic.Lib.Routing.OpsPair

@[expose] public section

set_option maxRecDepth 16384

noncomputable section

namespace Cert.ReferenceIdeal.Score

open Idealize.ShloMosaic Idealize.ShloMosaic.TcCoe Idealize.SL.Sem
open Cert.ReferenceIdeal Cert.ReferenceIdeal.Read Cert.ReferenceIdeal.Local Cert.Math

/-- A fold that keeps the last hit's value, when there is no hit. -/
theorem foldl_none {α : Type} : ∀ {N : ℕ} (hit : Fin N → Prop) [DecidablePred hit] (v : Fin N → α) (a : α), (∀ n, ¬hit n) →
    (List.finRange N).foldl (fun a n => if hit n then v n else a) a = a
  | 0, _, _, _, _, _ => rfl
  | N + 1, hit, _, v, a, h => by
    rw [List.finRange_succ_last, List.foldl_append, List.foldl_map, foldl_none (fun n : Fin N => hit n.castSucc) (fun n => v n.castSucc) a fun n => h _]
    exact if_neg (h _)

/-- A fold that keeps the last hit's value. -/
theorem foldl_last {α : Type} : ∀ {N : ℕ} (hit : Fin N → Prop) [DecidablePred hit] (v : Fin N → α) (a : α) (n₀ : Fin N), hit n₀ →
    (∀ n, n₀ < n → ¬hit n) → (List.finRange N).foldl (fun a n => if hit n then v n else a) a = v n₀
  | 0, _, _, _, _, n₀, _, _ => n₀.elim0
  | N + 1, hit, _, v, a, n₀, h, hl => by
    rw [List.finRange_succ_last, List.foldl_append, List.foldl_map]
    rcases Fin.eq_castSucc_or_eq_last n₀ with ⟨n₁, rfl⟩ | rfl
    · rw [foldl_last (fun n : Fin N => hit n.castSucc) (fun n => v n.castSucc) a n₁ h fun n hn => hl _ (by simpa using hn)]
      exact if_neg (hl _ (Fin.castSucc_lt_last _))
    · exact if_pos h

/-- How the scattered array's update is laid out. -/
abbrev dd := scatter_S2x4x2048x2048_S2x4x2048x16x4_S2x4x2048x16_n_0123_0123_4

/-- Where the scatter reads its target coordinates: beside the update. -/
theorem siIdx_eq (b : Fin 2) (g : Fin 4) (n : Fin 2048) (k : Fin 16) (q : Fin 4) :
    ScatterDims.siIdx dd (ix4 b g n k) q = ix5 b g n k q := by
  funext a
  fin_cases a <;> rfl

/-- The scatter writes single entries, so no update has an offset inside a window. -/
theorem window_eq (j : S2x4x2048x16.Idx) (q : Fin 4) : ScatterDims.window dd j q = 0 := by
  fin_cases q <;> rfl

/-- The target of an update is the four numbers stored beside it. -/
theorem start_eq (b : Fin 2) (g : Fin 4) (n : Fin 2048) (k : Fin 16) (idx : IVec S2x4x2048x16x4 32) (q : Fin 4) :
    ScatterDims.start dd (ix4 b g n k) idx q = (idx (ix5 b g n k q)).toInt := by
  rw [← siIdx_eq]
  fin_cases q <;> rfl

/-- The first target coordinate is the batch. -/
theorem v57_0 (x2 : Vec Ideal S2x1x2048x16 .i32) (b : Fin 2) (g : Fin 4) (n : Fin 2048) (k : Fin 16) :
    val_main_v57 (F := Ideal) x2 (ix5 b g n k 0) = BitVec.ofNat 32 b.val := by
  pointwise [val_main_v57, val_main_v53, val_main_v50, val_main_v34, val_main_v31, val_main_v33, val_main_v24, val_main_v30, val_main_v32, val_main_v23, val_main_c]
  exact Routing.wrap_of_lt _ _ (by simp only [BitVec.toNat_ofNat]; omega)

/-- The second target coordinate is the head. -/
theorem v57_1 (x2 : Vec Ideal S2x1x2048x16 .i32) (b : Fin 2) (g : Fin 4) (n : Fin 2048) (k : Fin 16) :
    val_main_v57 (F := Ideal) x2 (ix5 b g n k 1) = BitVec.ofNat 32 g.val := by
  pointwise [val_main_v57, val_main_v54, val_main_v51, val_main_v39, val_main_v36, val_main_v38, val_main_v26, val_main_v35, val_main_v37, val_main_v25, val_main_c_5]
  exact Routing.wrap_of_lt _ _ (by simp only [BitVec.toNat_ofNat]; omega)

/-- The third target coordinate is the point. -/
theorem v57_2 (x2 : Vec Ideal S2x1x2048x16 .i32) (b : Fin 2) (g : Fin 4) (n : Fin 2048) (k : Fin 16) :
    val_main_v57 (F := Ideal) x2 (ix5 b g n k 2) = BitVec.ofNat 32 n.val := by
  pointwise [val_main_v57, val_main_v55, val_main_v52, val_main_v44, val_main_v41, val_main_v43, val_main_v28, val_main_v40, val_main_v42, val_main_v27, val_main_c_7]
  exact Routing.wrap_of_lt _ _ (by simp only [BitVec.toNat_ofNat]; omega)

/-- The fourth target coordinate is the neighbour's number, which is not negative and so is not wrapped. -/
theorem v57_3 (x2 : Vec Ideal S2x1x2048x16 .i32) (b : Fin 2) (g : Fin 4) (n : Fin 2048) (k : Fin 16) (h : (x2 (ix4 b (0 : Fin 1) n k)).toNat < 2 ^ 31) :
    val_main_v57 (F := Ideal) x2 (ix5 b g n k 3) = x2 (ix4 b (0 : Fin 1) n k) := by
  pointwise [val_main_v57, val_main_v56, val_main_v49, val_main_v46, val_main_v48, val_main_v22, val_main_v45, val_main_v47, val_main_c_9]
  exact Routing.wrap_of_lt _ _ h

/-- Which element of the scores an update lands at. -/
theorem lands (x2 : Vec Ideal S2x1x2048x16 .i32) (hr : ∀ b n k, (x2 (ix4 b (0 : Fin 1) n k)).toNat < 2 ^ 31)
    (b b' : Fin 2) (g g' : Fin 4) (n n' : Fin 2048) (k : Fin 16) (m : Fin 2048) :
    ScatterDims.resultIdx? dd (ix4 b' g' n' k) (val_main_v57 (F := Ideal) x2) = some (ix4 b g n m)
      ↔ b' = b ∧ g' = g ∧ n' = n ∧ x2 (ix4 b' (0 : Fin 1) n' k) = BitVec.ofNat 32 m.val := by
  have small : ∀ (v : ℕ), v < 2048 → (BitVec.ofNat 32 v).toInt = (v : ℤ) := fun v hv => by
    rw [BitVec.toInt_eq_toNat_of_lt (by simp only [BitVec.toNat_ofNat]; omega), BitVec.toNat_ofNat, Nat.mod_eq_of_lt (by omega)]
  rw [Routing.resultIdx?_eq_some]
  have hx : (x2 (ix4 b' (0 : Fin 1) n' k)).toInt = ((x2 (ix4 b' (0 : Fin 1) n' k)).toNat : ℤ) :=
    BitVec.toInt_eq_toNat_of_lt (by have := hr b' n' k; omega)
  have key : ∀ a : Fin 4, ScatterDims.start dd (ix4 b' g' n' k) (val_main_v57 (F := Ideal) x2) a + (ScatterDims.window dd (ix4 b' g' n' k) a : ℤ)
      = (val_main_v57 (F := Ideal) x2 (ix5 b' g' n' k a)).toInt := fun a => by rw [start_eq, window_eq]; simp
  constructor
  · intro h
    have h0 := (key 0).symm.trans (h 0)
    have h1 := (key 1).symm.trans (h 1)
    have h2 := (key 2).symm.trans (h 2)
    have h3 := (key 3).symm.trans (h 3)
    rw [v57_0, small _ (by omega)] at h0
    rw [v57_1, small _ (by omega)] at h1
    rw [v57_2, small _ (by omega)] at h2
    rw [v57_3 _ _ _ _ _ (hr _ _ _), hx] at h3
    have e0 : (b'.val : ℤ) = b.val := h0
    have e1 : (g'.val : ℤ) = g.val := h1
    have e2 : (n'.val : ℤ) = n.val := h2
    have e3 : ((x2 (ix4 b' (0 : Fin 1) n' k)).toNat : ℤ) = m.val := h3
    refine ⟨Fin.ext (by omega), Fin.ext (by omega), Fin.ext (by omega), BitVec.eq_of_toNat_eq ?_⟩
    rw [BitVec.toNat_ofNat, Nat.mod_eq_of_lt (by omega)]
    omega
  · rintro ⟨rfl, rfl, rfl, e⟩ a
    refine (key a).trans ?_
    fin_cases a
    · exact (congrArg BitVec.toInt (v57_0 x2 b' g' n' k)).trans (small _ (by omega))
    · exact (congrArg BitVec.toInt (v57_1 x2 b' g' n' k)).trans (small _ (by omega))
    · exact (congrArg BitVec.toInt (v57_2 x2 b' g' n' k)).trans (small _ (by omega))
    · exact (congrArg BitVec.toInt ((v57_3 x2 b' g' n' k (hr _ _ _)).trans e)).trans (small _ (by omega))

/-- The scattered array: what point `n` leaves on target `m`. -/
theorem v58_apply (x0 : Vec Ideal S2x256x2048x16 .f32) (x2 : Vec Ideal S2x1x2048x16 .i32) (x5 x6 : Vec Ideal S192x256 .f32)
    (hr : ∀ b n k, (x2 (ix4 b (0 : Fin 1) n k)).toNat < 2 ^ 31) (b : Fin 2) (g : Fin 4) (n m : Fin 2048) :
    val_main_v58 (F := Ideal) x0 x2 x5 x6 (ix4 b g n m)
      = leave (fun k => x2 (ix4 b (0 : Fin 1) n k)) (attn x5 x6 (nbr x0 b n) g) m.val := by
  unfold val_main_v58
  rw [Routing.scatter_at]
  have idx4 : ∀ j : S2x4x2048x16.Idx, ∃ (b' : Fin 2) (g' : Fin 4) (n' : Fin 2048) (k : Fin 16), j = ix4 b' g' n' k :=
    fun j => ⟨j 0, j 1, j 2, j 3, by ext i; fin_cases i <;> rfl⟩
  rcases last_or_none (fun k => x2 (ix4 b (0 : Fin 1) n k)) (BitVec.ofNat 32 m.val) with h | ⟨k₀, h, hl⟩
  · rw [leave_none _ _ _ h]
    refine (foldl_none _ _ _ fun p hp => ?_).trans ?_
    · obtain ⟨b', g', n', k, e⟩ := idx4 (S2x4x2048x16.rowMajor.symm p)
      rw [e, lands x2 hr] at hp
      obtain ⟨rfl, rfl, rfl, q⟩ := hp
      exact h k q
    · pointwise [val_main_v29, val_main_cst_3]
  · rw [leave_last _ _ _ k₀ h hl]
    refine (foldl_last _ _ _ (S2x4x2048x16.rowMajor (ix4 b g n k₀)) ?_ fun p hlt hp => ?_).trans ?_
    · rw [Equiv.symm_apply_apply, lands x2 hr]
      exact ⟨rfl, rfl, rfl, h⟩
    · obtain ⟨b', g', n', k, e⟩ := idx4 (S2x4x2048x16.rowMajor.symm p)
      rw [e, lands x2 hr] at hp
      obtain ⟨rfl, rfl, rfl, q⟩ := hp
      obtain rfl := (Equiv.symm_apply_eq _).1 e
      refine hl k ?_ q
      have hv : (S2x4x2048x16.rowMajor (ix4 b' g' n' k₀)).val < (S2x4x2048x16.rowMajor (ix4 b' g' n' k)).val := hlt
      rw [Shape.rowMajor_val_four, Shape.rowMajor_val_four] at hv
      have hv' : ((b'.val * 4 + g'.val) * 2048 + n'.val) * 16 + k₀.val < ((b'.val * 4 + g'.val) * 2048 + n'.val) * 16 + k.val := hv
      exact Fin.lt_def.2 (by omega)
    · rw [Equiv.symm_apply_apply]
      exact v21_apply x0 x5 x6 b g n k₀

/-- The score of target `m`. -/
theorem v59_apply (x0 : Vec Ideal S2x256x2048x16 .f32) (x2 : Vec Ideal S2x1x2048x16 .i32) (x5 x6 : Vec Ideal S192x256 .f32)
    (hr : ∀ b n k, (x2 (ix4 b (0 : Fin 1) n k)).toNat < 2 ^ 31) (b : Fin 2) (g : Fin 4) (m : Fin 2048) :
    val_main_v59 (F := Ideal) x0 x2 x5 x6 (ix3 b g m)
      = ∑ n : Fin 2048, leave (fun k => x2 (ix4 b (0 : Fin 1) n k)) (attn x5 x6 (nbr x0 b n) g) m.val := by
  pointwise [val_main_v59, val_main_cst_11]
  simp only [v58_apply x0 x2 x5 x6 hr]

end Cert.ReferenceIdeal.Score

end
-- ==== Proof.RefTop.lean ====
/- The reference's selection, read at an index: the points a row of scores ranks first, and what is gathered at them. -/
module

public import proofs.«01_k».proof.Proof.RefScore
public import proofs.«01_k».proof.Proof.Memory
public import Idealize.ShloMosaic.Lib.ReduceAll

@[expose] public section

set_option maxRecDepth 16384

noncomputable section

namespace Cert.ReferenceIdeal.Memory

open Idealize.ShloMosaic Idealize.ShloMosaic.TcCoe Idealize.SL.Sem
open Cert.ReferenceIdeal Cert.ReferenceIdeal.Read Cert.ReferenceIdeal.Local Cert.ReferenceIdeal.Score Cert.Math

/-- The first sixteen of the last axis, read at an index. -/
theorem slice_at {α : Type} (y : S2x4x1x2048.Idx → α) (h : S2x4x1x2048.Slices (fun _ => 0) S2x4x1x16) (b : Fin 2) (g : Fin 4) (k : Fin 16) :
    extractStridedSlice S2x4x1x16 (fun _ => 0) y h (ix4 b g (0 : Fin 1) k) = y (ix4 b g (0 : Fin 1) (up k)) := by
  refine congrArg y (funext fun a => ?_)
  fin_cases a <;> exact Fin.ext (Nat.zero_add _)

/-- An index of the scores moved along the points. -/
theorem along_at (b : Fin 2) (g : Fin 4) (k m : Fin 2048) :
    Shape.Idx.along (s := S2x4x1x2048) (ix4 b g (0 : Fin 1) k) 3 m = ix4 b g (0 : Fin 1) m := by
  funext a
  fin_cases a <;> rfl

/-- The stable sort of a row of scores puts at `k` the point the row ranks `k`-th. -/
theorem order_at (x : S2x4x1x2048.Idx → EReal) (b : Fin 2) (g : Fin 4) (k : Fin 16) :
    sortedFrom (fun m m' : Fin 2048 => FloatOps.cmpfTotal (F := Ideal) (φ := .f32) .gt (x (Shape.Idx.along (s := S2x4x1x2048) (ix4 b g (0 : Fin 1) (up k)) 3 m))
      (x (Shape.Idx.along (s := S2x4x1x2048) (ix4 b g (0 : Fin 1) (up k)) 3 m')) == 1#1) (up k) = best (fun m => x (ix4 b g (0 : Fin 1) m)) k := by
  unfold best rank
  refine congrFun (congrArg sortedFrom (funext fun m => funext fun m' => ?_)) _
  rw [along_at, along_at]
  show (BitVec.ofBool (decide (_ < _)) == 1#1) = _
  cases decide (x (ix4 b g (0 : Fin 1) m') < x (ix4 b g (0 : Fin 1) m)) <;> rfl

/-- The scores selected. -/
theorem top_values (x : S2x4x1x2048.Idx → EReal) (h : S2x4x1x2048.Slices (fun _ => 0) S2x4x1x16) (b : Fin 2) (g : Fin 4) (k : Fin 16) :
    (Host.topK S2x4x1x16 3 (FloatOps.cmpfTotal (F := Ideal) (φ := .f32) .gt) x h).1 (ix4 b g (0 : Fin 1) k)
      = x (ix4 b g (0 : Fin 1) (best (fun m => x (ix4 b g (0 : Fin 1) m)) k)) := by
  dsimp only [Host.topK]
  refine (slice_at _ h b g k).trans ?_
  rw [← order_at x b g k, ← along_at b g (up k) (sortedFrom _ _)]
  rfl

/-- What the sort carries along with the scores. -/
theorem carried_at {β : Type} (x : S2x4x1x2048.Idx → EReal) (y : S2x4x1x2048.Idx → β) (b : Fin 2) (g : Fin 4) (k : Fin 16) :
    (Host.sort2 S2x4x1x2048 3 (fun l r => FloatOps.cmpfTotal (F := Ideal) (φ := .f32) .gt l.1 r.1) x y).2 (ix4 b g (0 : Fin 1) (up k))
      = y (ix4 b g (0 : Fin 1) (best (fun m => x (ix4 b g (0 : Fin 1) m)) k)) := by
  rw [← order_at x b g k, ← along_at b g (up k) (sortedFrom _ _)]
  rfl

/-- Their points, as words. -/
theorem top_indices (x : S2x4x1x2048.Idx → EReal) (h : S2x4x1x2048.Slices (fun _ => 0) S2x4x1x16) (b : Fin 2) (g : Fin 4) (k : Fin 16) :
    (Host.topK S2x4x1x16 3 (FloatOps.cmpfTotal (F := Ideal) (φ := .f32) .gt) x h).2 (ix4 b g (0 : Fin 1) k)
      = BitVec.ofNat 32 (best (fun m => x (ix4 b g (0 : Fin 1) m)) k).val := by
  dsimp only [Host.topK]
  refine (slice_at _ h b g k).trans ?_
  exact carried_at x _ b g k

/-- The scores of one batch. -/
def scs1 (x0 : Vec Ideal S2x256x2048x16 .f32) (x2 : Vec Ideal S2x1x2048x16 .i32) (x5 x6 : Vec Ideal S192x256 .f32) (b : Fin 2) (g : Fin 4) (m : Fin 2048) : EReal :=
  val_main_v59 (F := Ideal) x0 x2 x5 x6 (ix3 b g m)

/-- The scores with their axis of one. -/
theorem v60_at (x0 : Vec Ideal S2x256x2048x16 .f32) (x2 : Vec Ideal S2x1x2048x16 .i32) (x5 x6 : Vec Ideal S192x256 .f32) (b : Fin 2) (g : Fin 4) (m : Fin 2048) :
    val_main_v60 (F := Ideal) x0 x2 x5 x6 (ix4 b g (0 : Fin 1) m) = scs1 x0 x2 x5 x6 b g m := by
  pointwise [val_main_v60]
  rfl

/-- The selected point's word, repeated over the channels. -/
theorem v73_at (x0 : Vec Ideal S2x256x2048x16 .f32) (x2 : Vec Ideal S2x1x2048x16 .i32) (x5 x6 : Vec Ideal S192x256 .f32) (b : Fin 2) (g : Fin 4) (c k : Fin 16) :
    val_main_v73 (F := Ideal) x0 x2 x5 x6 (ix4 b g c k) = BitVec.ofNat 32 (best (scs1 x0 x2 x5 x6 b g) k).val := by
  pointwise [val_main_v73]
  refine (top_indices _ _ b g k).trans ?_
  rw [show (fun m => val_main_v60 (F := Ideal) x0 x2 x5 x6 (ix4 b g (0 : Fin 1) m)) = scs1 x0 x2 x5 x6 b g from funext fun m => v60_at x0 x2 x5 x6 b g m]

/-- The selected score, repeated over the channels. -/
theorem v74_at (x0 : Vec Ideal S2x256x2048x16 .f32) (x2 : Vec Ideal S2x1x2048x16 .i32) (x5 x6 : Vec Ideal S192x256 .f32) (b : Fin 2) (g : Fin 4) (c k : Fin 16) :
    val_main_v74 (F := Ideal) x0 x2 x5 x6 (ix4 b g c k) = scs1 x0 x2 x5 x6 b g (best (scs1 x0 x2 x5 x6 b g) k) := by
  pointwise [val_main_v74]
  refine (top_values _ _ b g k).trans ?_
  rw [show (fun m => val_main_v60 (F := Ideal) x0 x2 x5 x6 (ix4 b g (0 : Fin 1) m)) = scs1 x0 x2 x5 x6 b g from funext fun m => v60_at x0 x2 x5 x6 b g m]
  exact v60_at x0 x2 x5 x6 b g _

/-- The gather's index word: no word is negative, so none is wrapped. -/
theorem call_v5 (x0 : Vec Ideal S2x256x2048x16 .f32) (x2 : Vec Ideal S2x1x2048x16 .i32) (x5 x6 : Vec Ideal S192x256 .f32) (b : Fin 2) (g : Fin 4) (c k : Fin 16) (z : Fin 1) :
    val_main_call0_v5 (F := Ideal) x0 x2 x5 x6 (ix5 b g c k z) = BitVec.ofNat 32 (best (scs1 x0 x2 x5 x6 b g) k).val := by
  rw [← v73_at x0 x2 x5 x6 b g c k]
  pointwise [val_main_call0_v5, val_main_call0_v4, val_main_call0_v1, val_main_call0_v0, val_main_call0_c]
  refine Routing.wrap_of_lt _ _ ?_
  rw [v73_at, BitVec.toNat_ofNat]
  have := (best (scs1 x0 x2 x5 x6 b g) k).isLt
  omega

/-- A word below 2048 is in the gather's range. -/
theorem inside (n : ℕ) (h : n < 2048) :
    IntOp.andi (IntOp.cmpi .sge (BitVec.ofNat 32 n) 0#32) (IntOp.cmpi .sle (BitVec.ofNat 32 n) 2047#32) = 1#1 := by
  have e : (BitVec.ofNat 32 n).toInt = n := by
    rw [BitVec.toInt_ofNat']
    exact Int.bmod_eq_of_le (by omega) (by omega)
  have e1 : IntOp.cmpi .sge (BitVec.ofNat 32 n) 0#32 = 1#1 := IntOp.cmpi_sge.2 (by rw [e]; exact Int.natCast_nonneg n)
  have e2 : IntOp.cmpi .sle (BitVec.ofNat 32 n) 2047#32 = 1#1 := IntOp.cmpi_sle.2 (by rw [e]; show (n : ℤ) ≤ 2047; omega)
  rw [e1, e2]
  rfl

/-- The gather's mask before the reduction over its axis of one. -/
theorem call_v11 (x0 : Vec Ideal S2x256x2048x16 .f32) (x2 : Vec Ideal S2x1x2048x16 .i32) (x5 x6 : Vec Ideal S192x256 .f32) (b : Fin 2) (g : Fin 4) (c k : Fin 16) (z : Fin 1) :
    val_main_call0_v11 (F := Ideal) x0 x2 x5 x6 (ix5 b g c k z) = 1#1 := by
  pointwise [val_main_call0_v11, val_main_call0_v7, val_main_call0_v10, val_main_call0_v6, val_main_call0_v9, val_main_call0_v8, val_main_call0_c_1, val_main_call0_c_2]
  rw [call_v5]
  exact inside _ (best (scs1 x0 x2 x5 x6 b g) k).isLt

/-- The gather's mask is set everywhere. -/
theorem call_v12 (x0 : Vec Ideal S2x256x2048x16 .f32) (x2 : Vec Ideal S2x1x2048x16 .i32) (x5 x6 : Vec Ideal S192x256 .f32) (j : S2x4x16x16.Idx) :
    val_main_call0_v12 (F := Ideal) x0 x2 x5 x6 j = 1#1 := by
  refine Host.reduce_andi_one _ _ _ _ j rfl fun i => ?_
  have hi : i = ix5 (i 0) (i 1) (i 2) (i 3) (i 4) := by funext a; fin_cases a <;> rfl
  rw [hi]
  exact call_v11 x0 x2 x5 x6 (i 0) (i 1) (i 2) (i 3) (i 4)

/-- The gather's dimension numbers. -/
abbrev gg := gather_S2x4x16x2048_S2x4x16x16x1_S2x4x16x16_n_3_012_012_3_4_1111

/-- The gather at in-range index words. -/
theorem gather_at (x : S2x4x16x2048.Idx → EReal) (idx : IVec S2x4x16x16x1 32) (b : Fin 2) (g : Fin 4) (c k : Fin 16) (m : Fin 2048)
    (h : idx (ix5 b g c k (0 : Fin 1)) = BitVec.ofNat 32 m.val) : Host.gather gg x idx (ix4 b g c k) = x (ix4 b g c m) := by
  refine congrArg x (funext fun a => Fin.ext ?_)
  show GatherDims.start gg _ idx a + GatherDims.batchCoord gg _ a + GatherDims.offCoord gg _ a = _
  have hs : GatherDims.siIdx gg (ix4 b g c k) (0 : Fin 1) = ix5 b g c k (0 : Fin 1) := by funext a; fin_cases a <;> rfl
  have h3 : GatherDims.start gg (ix4 b g c k) idx 3 = m.val := by
    show min (idx (GatherDims.siIdx gg (ix4 b g c k) (0 : Fin 1))).toInt.toNat 2047 = _
    rw [hs, h, BitVec.toInt_ofNat']
    have := m.isLt
    rw [Int.bmod_eq_of_le (by omega) (by omega)]
    omega
  fin_cases a
  · show 0 + b.val + 0 = b.val
    omega
  · show 0 + g.val + 0 = g.val
    omega
  · show 0 + c.val + 0 = c.val
    omega
  · show GatherDims.start gg _ idx 3 + 0 + 0 = _
    exact h3

/-- The points of one batch. -/
def pts1 (x1 : Vec Ideal S2x128x2048x1 .f32) (b : Fin 2) (i : Fin 128) (n : Fin 2048) : EReal := x1 (ix4 b i n (0 : Fin 1))

/-- A projection of the points. -/
theorem v66_at (x1 : Vec Ideal S2x128x2048x1 .f32) (w : Vec Ideal S64x128 .f32) (b : Fin 2) (g : Fin 4) (c : Fin 16) (n : Fin 2048) :
    val_main_v66 (F := Ideal) x1 w (ix4 b g c n) = row w (chan64 g c) fun i => pts1 x1 b i n := by
  pointwise [val_main_v66, val_main_v65, val_main_v64]
  simp only [row, pts1]
  refine Finset.sum_congr rfl fun i _ => ?_
  exact mul_comm _ _

/-- The key projection is the same computation. -/
theorem v69_at (x1 : Vec Ideal S2x128x2048x1 .f32) (w : Vec Ideal S64x128 .f32) : val_main_v69 (F := Ideal) x1 w = val_main_v66 (F := Ideal) x1 w := rfl

/-- So is the value projection. -/
theorem v72_at (x1 : Vec Ideal S2x128x2048x1 .f32) (w : Vec Ideal S64x128 .f32) : val_main_v72 (F := Ideal) x1 w = val_main_v66 (F := Ideal) x1 w := rfl

/-- The memory keys. -/
theorem v75_at (x0 : Vec Ideal S2x256x2048x16 .f32) (x1 : Vec Ideal S2x128x2048x1 .f32) (x2 : Vec Ideal S2x1x2048x16 .i32) (x5 x6 : Vec Ideal S192x256 .f32) (x9 : Vec Ideal S64x128 .f32) (b : Fin 2) (g : Fin 4) (c k : Fin 16) :
    val_main_v75 (F := Ideal) x0 x1 x2 x5 x6 x9 (ix4 b g c k) = row x9 (chan64 g c) fun i => pts1 x1 b i (best (scs1 x0 x2 x5 x6 b g) k) := by
  rw [val_main_v75_apply, call_v12, ← v66_at, ← v69_at]
  refine (if_pos rfl).trans ?_
  exact gather_at (val_main_v69 (F := Ideal) x1 x9) _ b g c k _ (call_v5 x0 x2 x5 x6 b g c k 0)

/-- The two gathers are the same computation. -/
theorem v76_at (x0 : Vec Ideal S2x256x2048x16 .f32) (x1 : Vec Ideal S2x128x2048x1 .f32) (x2 : Vec Ideal S2x1x2048x16 .i32) (x5 x6 : Vec Ideal S192x256 .f32) (x10 : Vec Ideal S64x128 .f32) :
    val_main_v76 (F := Ideal) x0 x1 x2 x5 x6 x10 = val_main_v75 (F := Ideal) x0 x1 x2 x5 x6 x10 := rfl

/-- The head of a channel written as head and channel. -/
theorem head_chan (g : Fin 4) (c : Fin 16) : headOf64 (chan64 g c) = g := Fin.ext (by show (g.val * 16 + c.val) / 16 = g.val; omega)

/-- The memory keys, channel by channel. -/
theorem v75_key (x0 : Vec Ideal S2x256x2048x16 .f32) (x1 : Vec Ideal S2x128x2048x1 .f32) (x2 : Vec Ideal S2x1x2048x16 .i32) (x5 x6 : Vec Ideal S192x256 .f32) (x9 : Vec Ideal S64x128 .f32) (b : Fin 2) (g : Fin 4) (c k : Fin 16) :
    val_main_v75 (F := Ideal) x0 x1 x2 x5 x6 x9 (ix4 b g c k) = keyM x9 (pts1 x1 b) (scs1 x0 x2 x5 x6 b) (chan64 g c) k := by
  rw [v75_at, keyM, head_chan]

/-- The memory values, channel by channel. -/
theorem v78_val (x0 : Vec Ideal S2x256x2048x16 .f32) (x1 : Vec Ideal S2x128x2048x1 .f32) (x2 : Vec Ideal S2x1x2048x16 .i32) (x5 x6 : Vec Ideal S192x256 .f32) (x10 : Vec Ideal S64x128 .f32) (b : Fin 2) (g : Fin 4) (c k : Fin 16) :
    val_main_v78 (F := Ideal) x0 x1 x2 x5 x6 x10 (ix4 b g c k) = valM x10 (pts1 x1 b) (scs1 x0 x2 x5 x6 b) (chan64 g c) k := by
  rw [val_main_v78_apply, v76_at, v75_key, val_main_v77_apply, v74_at, valM, head_chan]
  rfl

end Cert.ReferenceIdeal.Memory

end
-- ==== Proof.RefNorm.lean ====
/- The reference's memory attention and its normalisation, read at an index. -/
module

public import proofs.«01_k».proof.Proof.RefTop
public import proofs.«01_k».proof.Proof.Sums

@[expose] public section

set_option maxRecDepth 16384

noncomputable section

namespace Cert.Math

open Idealize.ShloMosaic Idealize.ShloMosaic.TcCoe Idealize.SL.Sem

/-- Dividing by a square root is multiplying by its reciprocal, above zero. -/
theorem div_sqrt (x y : EReal) (h : 0 < y) : Ideal.div x (Ideal.sqrt y) = x * Ideal.rsqrt y := by
  induction y using EReal.rec with
  | bot => exact absurd h (by simp)
  | top => rw [Ideal.sqrt_top, Ideal.rsqrt_top, Ideal.div, if_neg (by simp), EReal.inv_top]
  | coe r =>
    have hr : 0 < r := by exact_mod_cast h
    have hs : ((Real.sqrt r : ℝ) : EReal) ≠ 0 := by exact_mod_cast (Real.sqrt_pos.2 hr).ne'
    have e1 : Ideal.sqrt (r : EReal) = (Real.sqrt r : ℝ) := if_neg (not_lt.2 hr.le)
    rw [Ideal.rsqrt_coe, if_neg (not_lt.2 hr.le), if_neg hr.ne', e1, Ideal.div, if_neg hs, EReal.coe_inv]

/-- No square is negative. -/
theorem square_nonneg (x : EReal) : 0 ≤ x * x := by
  induction x using EReal.rec with
  | bot => simp
  | top => simp
  | coe r => exact_mod_cast mul_self_nonneg r

/-- The number of points the mean is over. -/
theorem count_word : Ideal.ofBits .f32 0x45800000#32 = ((4096 : ℝ) : EReal) := by
  simp [Ideal.ofBits, Ideal.ieee, -EReal.coe_mul]; norm_num

/-- The word added to the variance is above zero. -/
theorem eps_word : 0 < Ideal.ofBits .f32 0x3727C5AC#32 := by
  simp [Ideal.ofBits, Ideal.ieee, -EReal.coe_mul]

/-- No variance is negative. -/
theorem var_nonneg (M : Fin 2 → Fin 2048 → EReal) : 0 ≤ var M := by
  rw [var, avg, count_word, Ideal.div, if_neg (by norm_num)]
  refine mul_nonneg (Finset.sum_nonneg fun b _ => Finset.sum_nonneg fun n _ => square_nonneg _) ?_
  rw [← EReal.coe_inv]
  exact_mod_cast (by norm_num : (0 : ℝ) ≤ (4096 : ℝ)⁻¹)

/-- What the reciprocal square root is taken of is above zero. -/
theorem var_eps_pos (M : Fin 2 → Fin 2048 → EReal) : 0 < var M + Ideal.ofBits .f32 0x3727C5AC#32 :=
  lt_of_lt_of_le eps_word (le_add_of_nonneg_left (var_nonneg M))

end Cert.Math

namespace Cert.ReferenceIdeal.Memory

open Idealize.ShloMosaic Idealize.ShloMosaic.TcCoe Idealize.SL.Sem
open Cert.ReferenceIdeal Cert.ReferenceIdeal.Read Cert.ReferenceIdeal.Local Cert.ReferenceIdeal.Score Cert.Math

variable (x0 : Vec Ideal S2x256x2048x16 .f32) (x1 : Vec Ideal S2x128x2048x1 .f32) (x2 : Vec Ideal S2x1x2048x16 .i32) (x5 x6 : Vec Ideal S192x256 .f32)
  (x8 x9 x10 : Vec Ideal S64x128 .f32) (x11 : Vec Ideal S64x64 .f32) (x12 x13 : Vec Ideal S64 .f32)

/-- The logit of a point for a memory slot. -/
theorem v80_at (b : Fin 2) (g : Fin 4) (n : Fin 2048) (k : Fin 16) :
    val_main_v80 (F := Ideal) x0 x1 x2 x5 x6 x8 x9 (ix4 b g n k)
      = ∑ c : Fin 16, keyM x9 (pts1 x1 b) (scs1 x0 x2 x5 x6 b) (chan64 g c) k * row x8 (chan64 g c) fun i => pts1 x1 b i n := by
  pointwise [val_main_v80, val_main_v79]
  simp only [v66_at, v75_key]
  exact Finset.sum_congr rfl fun c _ => mul_comm _ _

/-- The attention of a point over the memory. -/
theorem v91_at (b : Fin 2) (g : Fin 4) (n : Fin 2048) (k : Fin 16) :
    val_main_v91 (F := Ideal) x0 x1 x2 x5 x6 x8 x9 (ix4 b g n k)
      = soft (fun k => ∑ c : Fin 16, keyM x9 (pts1 x1 b) (scs1 x0 x2 x5 x6 b) (chan64 g c) k * row x8 (chan64 g c) fun i => pts1 x1 b i n) k := by
  pointwise [val_main_v91, val_main_v90, val_main_v89, val_main_v88, val_main_v87, val_main_v86, val_main_v85, val_main_v84, val_main_v83, val_main_v82, val_main_v81, val_main_cst_12, val_main_cst_13, val_main_cst_14, soft]
  simp only [v80_at, ninf_word, max_bot_left]
  rfl

/-- What a point reads from the memory. -/
theorem v95_at (b : Fin 2) (r : Fin 64) (n : Fin 2048) :
    val_main_v95 (F := Ideal) x0 x1 x2 x5 x6 x8 x9 x10 (ix4 b r n (0 : Fin 1)) = memOut x8 x9 x10 (pts1 x1 b) (scs1 x0 x2 x5 x6 b) r n := by
  have hr : chan64 (headOf64 r) ⟨r.val % 16, by omega⟩ = r := Fin.ext (by show r.val / 16 * 16 + r.val % 16 = r.val; omega)
  pointwise [val_main_v95, val_main_v94, val_main_v93, val_main_v92, memOut]
  simp only [v91_at, v78_val]
  refine Finset.sum_congr rfl fun k _ => ?_
  rw [mul_comm]
  exact congrArg (fun q => valM x10 (pts1 x1 b) (scs1 x0 x2 x5 x6 b) q k * _) hr

/-- The mixed channels. -/
theorem v97_at (b : Fin 2) (o : Fin 64) (n : Fin 2048) :
    val_main_v97 (F := Ideal) x0 x1 x2 x5 x6 x8 x9 x10 x11 (ix4 b o n (0 : Fin 1))
      = row x11 o fun r => memOut x8 x9 x10 (pts1 x1 b) (scs1 x0 x2 x5 x6 b) r n := by
  pointwise [val_main_v97, val_main_v96, row]
  simp only [v95_at]
  exact Finset.sum_congr rfl fun c _ => mul_comm _ _

/-- The mean of a channel. -/
theorem v101_at (o : Fin 64) :
    val_main_v101 (F := Ideal) x0 x1 x2 x5 x6 x8 x9 x10 x11 (ix4 (0 : Fin 1) o (0 : Fin 1) (0 : Fin 1))
      = avg fun b n => row x11 o fun r => memOut x8 x9 x10 (pts1 x1 b) (scs1 x0 x2 x5 x6 b) r n := by
  pointwise [val_main_v101, val_main_v100, val_main_v99, val_main_cst_16, val_main_v98, val_main_cst_15]
  rw [sum_ends_one]
  simp only [v97_at, zero_add]
  rfl

/-- The variance of a channel. -/
theorem v108_at (o : Fin 64) :
    val_main_v108 (F := Ideal) x0 x1 x2 x5 x6 x8 x9 x10 x11 (ix4 (0 : Fin 1) o (0 : Fin 1) (0 : Fin 1))
      = var fun b n => row x11 o fun r => memOut x8 x9 x10 (pts1 x1 b) (scs1 x0 x2 x5 x6 b) r n := by
  pointwise [val_main_v108, val_main_v107, val_main_v106, val_main_cst_18, val_main_v105, val_main_cst_17]
  rw [sum_ends_one]
  pointwise [val_main_v104, val_main_v103, val_main_v102]
  simp only [v97_at, v101_at]
  rfl

/-- The normalised channels. -/
theorem v121_at (b : Fin 2) (o : Fin 64) (n : Fin 2048) :
    val_main_v121 (F := Ideal) x0 x1 x2 x5 x6 x8 x9 x10 x11 x12 x13 (ix4 b o n (0 : Fin 1))
      = bnorm (fun b n => row x11 o fun r => memOut x8 x9 x10 (pts1 x1 b) (scs1 x0 x2 x5 x6 b) r n) (x12 (ix1 o)) (x13 (ix1 o)) b n := by
  pointwise [val_main_v121, val_main_v120, val_main_v119, val_main_v118, val_main_v117, val_main_v116, val_main_v115, val_main_v114, val_main_v113, val_main_v112, val_main_v111, val_main_v110, val_main_v109, val_main_cst_19]
  simp only [v97_at, v101_at, v108_at, bnorm]
  rw [div_sqrt _ _ (var_eps_pos _)]

end Cert.ReferenceIdeal.Memory

end
-- ==== Proof.RefOut.lean ====
/- The reference's three results as functions of its arguments. -/
module

public import proofs.«01_k».proof.Proof.RefNorm
public import proofs.«01_k».proof.Proof.Result

@[expose] public section

set_option maxRecDepth 16384

noncomputable section

namespace Cert.ReferenceIdeal.Memory

open Idealize.ShloMosaic Idealize.ShloMosaic.TcCoe Idealize.SL.Sem
open Cert.ReferenceIdeal Cert.ReferenceIdeal.Read Cert.ReferenceIdeal.Local Cert.ReferenceIdeal.Score Cert.Math

variable (x0 : Vec Ideal S2x256x2048x16 .f32) (x1 : Vec Ideal S2x128x2048x1 .f32) (x2 : Vec Ideal S2x1x2048x16 .i32) (x5 x6 x7 : Vec Ideal S192x256 .f32)
  (x8 x9 x10 : Vec Ideal S64x128 .f32) (x11 : Vec Ideal S64x64 .f32) (x12 x13 : Vec Ideal S64 .f32)

/-- The local channels, then the normalised ones, read at an index. -/
theorem v122_at (b : Fin 2) (r : Fin 256) (n : Fin 2048) :
    val_main_v122 (F := Ideal) x0 x1 x2 x5 x6 x7 x8 x9 x10 x11 x12 x13 (ix4 b r n (0 : Fin 1))
      = if h : r.val < 192 then val_main_v63 (F := Ideal) x0 x5 x6 x7 (ix4 b ⟨r.val, h⟩ n (0 : Fin 1))
        else val_main_v121 (F := Ideal) x0 x1 x2 x5 x6 x8 x9 x10 x11 x12 x13 (ix4 b ⟨r.val - 192, by omega⟩ n (0 : Fin 1)) := by
  unfold val_main_v122
  generalize val_main_v63 (F := Ideal) x0 x5 x6 x7 = y
  generalize val_main_v121 (F := Ideal) x0 x1 x2 x5 x6 x8 x9 x10 x11 x12 x13 = z
  pointwise []

/-- The points of a batch. -/
theorem pts_eq (b : Fin 2) : pts1 x1 b = ptsAt x1 b := rfl

/-- Any four-axis index is its coordinates. -/
theorem idx_eq (i : S2x4x16x16.Idx) : i = ix4 (i 0) (i 1) (i 2) (i 3) := by
  funext a
  fin_cases a <;> rfl

variable (hr : ∀ b n k, (x2 (ix4 b (0 : Fin 1) n k)).toNat < 2 ^ 31)
include hr

/-- The scores of a batch. -/
theorem scs_eq (b : Fin 2) : scs1 x0 x2 x5 x6 b = scoreAt x0 x2 x5 x6 b := by
  funext g p
  exact v59_apply x0 x2 x5 x6 hr b g p

/-- The second result: the memory keys. -/
theorem result1 : val_main_v75 (F := Ideal) x0 x1 x2 x5 x6 x9 = keysOf x0 x1 x2 x5 x6 x9 := by
  funext i
  refine (congrArg _ (idx_eq i)).trans ((v75_key x0 x1 x2 x5 x6 x9 (i 0) (i 1) (i 2) (i 3)).trans ?_)
  exact congrArg (fun S => keyM x9 (pts1 x1 (i 0)) S (chan64 (i 1) (i 2)) (i 3)) (scs_eq x0 x2 x5 x6 hr (i 0))

/-- The third result: the memory values. -/
theorem result2 : val_main_v78 (F := Ideal) x0 x1 x2 x5 x6 x10 = valsOf x0 x1 x2 x5 x6 x10 := by
  funext i
  refine (congrArg _ (idx_eq i)).trans ((v78_val x0 x1 x2 x5 x6 x10 (i 0) (i 1) (i 2) (i 3)).trans ?_)
  exact congrArg (fun S => valM x10 (pts1 x1 (i 0)) S (chan64 (i 1) (i 2)) (i 3)) (scs_eq x0 x2 x5 x6 hr (i 0))

/-- The first result: the local channels, then the normalised ones. -/
theorem result0 (b : Fin 2) (r : Fin 256) (n : Fin 2048) :
    val_main_v122 (F := Ideal) x0 x1 x2 x5 x6 x7 x8 x9 x10 x11 x12 x13 (ix4 b r n (0 : Fin 1)) = outOf x0 x1 x2 x5 x6 x7 x8 x9 x10 x11 x12 x13 b r n := by
  rw [v122_at, outOf]
  by_cases h : r.val < 192
  · rw [dif_pos h, dif_pos h, v63_apply]
    rfl
  · rw [dif_neg h, dif_neg h, v121_at]
    simp only [scs_eq x0 x2 x5 x6 hr]
    rfl

end Cert.ReferenceIdeal.Memory

end
-- ==== Proof.Bounds.lean ====
/- What the precondition says of the arguments: real entries, and indices that are not negative. -/
module

public import proofs.«01_k».proof.Proof.Gen.Pre_finite_and_not_negative
public import proofs.«01_k».proof.Proof.Positive
public import Idealize.ShloMosaic.Lib.ReduceAll
public import Idealize.ShloMosaic.Lib.Affine

@[expose] public section

set_option maxRecDepth 16384

noncomputable section

namespace Cert.Pre_finite_and_not_negative

open Idealize.ShloMosaic Cert.Math

/-- A conjunction of bits that is one has both bits one. -/
theorem both {a b : BitVec 1} (h : IntOp.andi a b = 1#1) : a = 1#1 ∧ b = 1#1 := by
  revert h
  show a &&& b = 1#1 → _
  revert a b
  decide

/-- The word the magnitudes are compared with is the greatest value. -/
theorem inf_word : Ideal.ofBits FTy.f32 0x7F800000#32 = (⊤ : EReal) := by simp [Ideal.ofBits, Ideal.ieee]

/-- A magnitude comparison that holds says the value is real. -/
theorem real_of_cmp {x : EReal} (h : Ideal.cmp .olt (max x (-x)) (Ideal.ofBits FTy.f32 0x7F800000#32) = 1#1) : Real' x := by
  rw [inf_word] at h
  refine real_of_abs ?_
  by_contra q
  rw [show Ideal.cmp .olt (max x (-x)) ⊤ = BitVec.ofBool (decide (max x (-x) < ⊤)) from rfl, decide_eq_false q] at h
  exact absurd h (by decide)

/-- A word that is at least zero, read signed, is in the lower half. -/
theorem below {x : BitVec 32} (h0 : IntOp.cmpi .sge x 0#32 = 1#1) : x.toNat < 2 ^ 31 := by
  have a : (0 : ℤ) ≤ x.toInt := IntOp.cmpi_sge.1 h0
  have := BitVec.toInt_eq_toNat_cond x
  split at this <;> omega

/-- The precondition, element by element. -/
theorem bounds (a0 : FVec Ideal S2x256x2048x16 .f32) (a1 : FVec Ideal S2x128x2048x1 .f32) (a2 : IVec S2x1x2048x16 32) (a3 a4 : FVec Ideal S2x4x16x16x1 .f32)
    (a5 a6 a7 : FVec Ideal S192x256 .f32) (a8 a9 a10 : FVec Ideal S64x128 .f32) (a11 : FVec Ideal S64x64 .f32) (a12 a13 : FVec Ideal S64 .f32)
    (h : fn (F := Ideal) a0 a1 a2 a3 a4 a5 a6 a7 a8 a9 a10 a11 a12 a13 = fun _ => 1#1) :
    (∀ i, Real' (a0 i)) ∧ (∀ i, Real' (a5 i)) ∧ (∀ i, Real' (a6 i)) ∧ ∀ i, (a2 i).toNat < 2 ^ 31 := by
  have : Subsingleton S_.Idx := ⟨fun a b => funext fun x => x.elim0⟩
  have j : S_.Idx := fun x => x.elim0
  obtain ⟨h13, h19⟩ := both (congrFun h j)
  obtain ⟨h8, h12⟩ := both h13
  obtain ⟨h3, h7⟩ := both h8
  exact ⟨fun i => real_of_cmp (Host.reduce_andi_all _ _ _ _ j h3 i), fun i => real_of_cmp (Host.reduce_andi_all _ _ _ _ j h7 i),
    fun i => real_of_cmp (Host.reduce_andi_all _ _ _ _ j h12 i), fun i => below (Host.reduce_andi_all _ _ _ _ j h19 i)⟩

end Cert.Pre_finite_and_not_negative

end
-- ==== Proof.Agree.lean ====
/- The kernel and the reference agree on every result. -/
module

public import proofs.«01_k».proof.Defs
public import proofs.«01_k».proof.Proof.KernelOut
public import proofs.«01_k».proof.Proof.RefOut
public import proofs.«01_k».proof.Proof.Bounds
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem Cert.Math

/-- A four-axis index with a last axis of one is its first three coordinates. -/
theorem idx_one (i : (⟨4, ![2, 256, 2048, 1]⟩ : Shape).Idx) : i = ix4 (i 0) (i 1) (i 2) (0 : Fin 1) := by
  funext a
  fin_cases a
  · rfl
  · rfl
  · rfl
  · exact Fin.ext (by have h : (i 3).val < 1 := (i 3).isLt; show (i 3).val = 0; omega)

/-- The first result of equal arguments. -/
theorem first_eq {x0 y0 : Vec Ideal Cert.ReferenceIdeal.S2x256x2048x16 .f32} {x1 y1 : Vec Ideal Cert.ReferenceIdeal.S2x128x2048x1 .f32} {x2 y2 : Vec Ideal Cert.ReferenceIdeal.S2x1x2048x16 .i32} {x5 y5 : Vec Ideal Cert.ReferenceIdeal.S192x256 .f32} {x6 y6 : Vec Ideal Cert.ReferenceIdeal.S192x256 .f32} {x7 y7 : Vec Ideal Cert.ReferenceIdeal.S192x256 .f32} {x8 y8 : Vec Ideal Cert.ReferenceIdeal.S64x128 .f32} {x9 y9 : Vec Ideal Cert.ReferenceIdeal.S64x128 .f32} {x10 y10 : Vec Ideal Cert.ReferenceIdeal.S64x128 .f32} {x11 y11 : Vec Ideal Cert.ReferenceIdeal.S64x64 .f32} {x12 y12 : Vec Ideal Cert.ReferenceIdeal.S64 .f32} {x13 y13 : Vec Ideal Cert.ReferenceIdeal.S64 .f32}
    (e0 : y0 = x0) (e1 : y1 = x1) (e2 : y2 = x2) (e5 : y5 = x5) (e6 : y6 = x6) (e7 : y7 = x7) (e8 : y8 = x8) (e9 : y9 = x9) (e10 : y10 = x10) (e11 : y11 = x11) (e12 : y12 = x12) (e13 : y13 = x13) :
    Cert.ReferenceIdeal.Read.val_main_v122 (F := Ideal) y0 y1 y2 y5 y6 y7 y8 y9 y10 y11 y12 y13 = Cert.ReferenceIdeal.Read.val_main_v122 (F := Ideal) x0 x1 x2 x5 x6 x7 x8 x9 x10 x11 x12 x13 := by
  rw [e0, e1, e2, e5, e6, e7, e8, e9, e10, e11, e12, e13]

/-- The second result of equal arguments. -/
theorem second_eq {x0 y0 : Vec Ideal Cert.ReferenceIdeal.S2x256x2048x16 .f32} {x1 y1 : Vec Ideal Cert.ReferenceIdeal.S2x128x2048x1 .f32} {x2 y2 : Vec Ideal Cert.ReferenceIdeal.S2x1x2048x16 .i32} {x5 y5 : Vec Ideal Cert.ReferenceIdeal.S192x256 .f32} {x6 y6 : Vec Ideal Cert.ReferenceIdeal.S192x256 .f32} {x9 y9 : Vec Ideal Cert.ReferenceIdeal.S64x128 .f32}
    (e0 : y0 = x0) (e1 : y1 = x1) (e2 : y2 = x2) (e5 : y5 = x5) (e6 : y6 = x6) (e9 : y9 = x9) :
    Cert.ReferenceIdeal.Read.val_main_v75 (F := Ideal) y0 y1 y2 y5 y6 y9 = Cert.ReferenceIdeal.Read.val_main_v75 (F := Ideal) x0 x1 x2 x5 x6 x9 := by
  rw [e0, e1, e2, e5, e6, e9]

/-- The third result of equal arguments. -/
theorem third_eq {x0 y0 : Vec Ideal Cert.ReferenceIdeal.S2x256x2048x16 .f32} {x1 y1 : Vec Ideal Cert.ReferenceIdeal.S2x128x2048x1 .f32} {x2 y2 : Vec Ideal Cert.ReferenceIdeal.S2x1x2048x16 .i32} {x5 y5 : Vec Ideal Cert.ReferenceIdeal.S192x256 .f32} {x6 y6 : Vec Ideal Cert.ReferenceIdeal.S192x256 .f32} {x10 y10 : Vec Ideal Cert.ReferenceIdeal.S64x128 .f32}
    (e0 : y0 = x0) (e1 : y1 = x1) (e2 : y2 = x2) (e5 : y5 = x5) (e6 : y6 = x6) (e10 : y10 = x10) :
    Cert.ReferenceIdeal.Read.val_main_v78 (F := Ideal) y0 y1 y2 y5 y6 y10 = Cert.ReferenceIdeal.Read.val_main_v78 (F := Ideal) x0 x1 x2 x5 x6 x10 := by
  rw [e0, e1, e2, e5, e6, e10]

/-- What a memory of the reference holds in a buffer of a device. -/
abbrev at' (m : (ℓ : Loc Cert.ReferenceIdeal.nD Cert.ReferenceIdeal.τ Cert.ReferenceIdeal.sig) → Buf (Elt Ideal) ℓ) (c : Dev Cert.ReferenceIdeal.nD) (b : Ref Cert.ReferenceIdeal.sig .tc) :=
  m ((c.tc : Thread Cert.ReferenceIdeal.nD Cert.ReferenceIdeal.τ).loc b)

/-- The kernel and the reference agree on every result, on real inputs and indices that are not negative. -/
theorem algebraic : Cert.algebraic_KernelIdeal_ReferenceIdeal_pre_finite_and_not_negative := by
  intro m ρ m' ρ' hpre hagree
  have hb := fun c => Cert.Pre_finite_and_not_negative.bounds _ _ _ _ _ _ _ _ _ _ _ _ _ _ (hpre c)
  refine ⟨fun c => Cert.KernelIdeal.Gen.W5 m ρ c (Proc.devRef .tc Cert.KernelIdeal.main_v0_0), fun c => Cert.KernelIdeal.Gen.W5 m ρ c (Proc.devRef .tc Cert.KernelIdeal.main_v0_1),
    fun c => Cert.KernelIdeal.Gen.W5 m ρ c (Proc.devRef .tc Cert.KernelIdeal.main_v0_2), ?_, ?_⟩
  · refine (θ_run Cert.KernelIdeal.defs _ _).mono (fun r h c => ?_) (θ_run_and (Cert.KernelIdeal.Whole.ends (F := Ideal) m ρ) (Cert.KernelIdeal.Gen.frame (F := Ideal) m ρ))
    exact ⟨h.1 c _ (Cert.KernelIdeal.Gen.mem_uc Cert.KernelIdeal.main_v0_0 (by decide)), h.1 c _ (Cert.KernelIdeal.Gen.mem_uc Cert.KernelIdeal.main_v0_1 (by decide)),
      h.1 c _ (Cert.KernelIdeal.Gen.mem_uc Cert.KernelIdeal.main_v0_2 (by decide)), h.2.1 c⟩
  · have r0 : ∀ c : Dev Cert.KernelIdeal.nD, Cert.ReferenceIdeal.Read.val_main_v122 (F := Ideal) (at' m' c Cert.ReferenceIdeal.main_arg0) (at' m' c Cert.ReferenceIdeal.main_arg1) (at' m' c Cert.ReferenceIdeal.main_arg2) (at' m' c Cert.ReferenceIdeal.main_arg5) (at' m' c Cert.ReferenceIdeal.main_arg6) (at' m' c Cert.ReferenceIdeal.main_arg7) (at' m' c Cert.ReferenceIdeal.main_arg8) (at' m' c Cert.ReferenceIdeal.main_arg9) (at' m' c Cert.ReferenceIdeal.main_arg10) (at' m' c Cert.ReferenceIdeal.main_arg11) (at' m' c Cert.ReferenceIdeal.main_arg12) (at' m' c Cert.ReferenceIdeal.main_arg13) = Cert.KernelIdeal.Gen.W5 m ρ c (Proc.devRef .tc Cert.KernelIdeal.main_v0_0) := fun c => by
      obtain ⟨h0, h5, h6, h2⟩ := hb c
      obtain ⟨a0, a1, a2, a3, a4, a5, a6, a7, a8, a9, a10, a11, a12, a13⟩ := hagree c
      refine (first_eq a0 a1 a2 a5 a6 a7 a8 a9 a10 a11 a12 a13).trans ?_
      funext i
      rw [idx_one i]
      exact (Cert.ReferenceIdeal.Memory.result0 _ _ _ _ _ _ _ _ _ _ _ _ (fun b n k => h2 _) (i 0) (i 1) (i 2)).trans
        (Cert.KernelIdeal.Whole.result0 m ρ c h0 h5 h6 (i 0) (i 1) (i 2)).symm
    have r1 : ∀ c : Dev Cert.KernelIdeal.nD, Cert.ReferenceIdeal.Read.val_main_v75 (F := Ideal) (at' m' c Cert.ReferenceIdeal.main_arg0) (at' m' c Cert.ReferenceIdeal.main_arg1) (at' m' c Cert.ReferenceIdeal.main_arg2) (at' m' c Cert.ReferenceIdeal.main_arg5) (at' m' c Cert.ReferenceIdeal.main_arg6) (at' m' c Cert.ReferenceIdeal.main_arg9) = Cert.KernelIdeal.Gen.W5 m ρ c (Proc.devRef .tc Cert.KernelIdeal.main_v0_1) := fun c => by
      obtain ⟨h0, h5, h6, h2⟩ := hb c
      obtain ⟨a0, a1, a2, a3, a4, a5, a6, a7, a8, a9, a10, a11, a12, a13⟩ := hagree c
      refine (second_eq a0 a1 a2 a5 a6 a9).trans ?_
      exact (Cert.ReferenceIdeal.Memory.result1 _ _ _ _ _ _ (fun b n k => h2 _)).trans (Cert.KernelIdeal.Whole.result1 m ρ c h0 h5 h6).symm
    have r2 : ∀ c : Dev Cert.KernelIdeal.nD, Cert.ReferenceIdeal.Read.val_main_v78 (F := Ideal) (at' m' c Cert.ReferenceIdeal.main_arg0) (at' m' c Cert.ReferenceIdeal.main_arg1) (at' m' c Cert.ReferenceIdeal.main_arg2) (at' m' c Cert.ReferenceIdeal.main_arg5) (at' m' c Cert.ReferenceIdeal.main_arg6) (at' m' c Cert.ReferenceIdeal.main_arg10) = Cert.KernelIdeal.Gen.W5 m ρ c (Proc.devRef .tc Cert.KernelIdeal.main_v0_2) := fun c => by
      obtain ⟨h0, h5, h6, h2⟩ := hb c
      obtain ⟨a0, a1, a2, a3, a4, a5, a6, a7, a8, a9, a10, a11, a12, a13⟩ := hagree c
      refine (third_eq a0 a1 a2 a5 a6 a10).trans ?_
      exact (Cert.ReferenceIdeal.Memory.result2 _ _ _ _ _ _ (fun b n k => h2 _)).trans (Cert.KernelIdeal.Whole.result2 m ρ c h0 h5 h6).symm
    refine (θ_run Cert.ReferenceIdeal.defs _ _).mono (fun r h c => ?_) (Cert.ReferenceIdeal.Value.run (F := Ideal) m' ρ')
    exact ⟨(h c).1.trans ((Cert.ReferenceIdeal.Read.val_main_v122_eq _).trans (r0 c)), (h c).2.1.trans ((Cert.ReferenceIdeal.Read.val_main_v75_eq _).trans (r1 c)),
      (h c).2.2.1.trans ((Cert.ReferenceIdeal.Read.val_main_v78_eq _).trans (r2 c)), (h c).2.2.2⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_not_negative
public import proofs.«01_k».proof.Proof.Agree

@[expose] public section

noncomputable section

namespace Cert.Proof

open Idealize.ShloMosaic Idealize.SL.Sem

/-- The reference leaves its arguments unchanged and no semaphore raised. -/
theorem reference_frame : Cert.quiescent_ReferenceIdeal := fun m ρ _ =>
  (θ_run Cert.ReferenceIdeal.defs _ _).mono
    (fun r h => ⟨fun c => (h c).2.2.2, Idealize.ShloMosaic.sem_eq_zero_of_no_sems (by decide) r.2⟩) (Cert.ReferenceIdeal.Value.run (F := Ideal) m ρ)

/-- The frames, the preservation, and the agreement on every result. -/
theorem claim : Cert.Claim := ⟨Cert.Kernel.Gen.facts, Cert.KernelIdeal.Gen.facts, Cert.ReferenceIdeal.Gen.facts, Cert.Pre_finite_and_not_negative.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, algebraic⟩

end Cert.Proof

end
